-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_domain [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_domain [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_domain [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_domain : Cert.Pre_domain.Facts),
    quiescent_Kernel (hKernel := hKernel)
    ∧ quiescent_KernelIdeal (hKernelIdeal := hKernelIdeal)
    ∧ quiescent_KernelIdeal_pre_domain (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ preserves_Kernel_KernelIdeal
    ∧ algebraic_KernelIdeal_ReferenceIdeal_pre_domain (hKernelIdeal := hKernelIdeal) (hReferenceIdeal := hReferenceIdeal) (hPre_domain := hPre_domain)
-- ==== Pre_domain.lean ====
abbrev S8x2048x4096 : Shape := ⟨3, ![8, 2048, 4096]⟩
abbrev S4096x4608 : Shape := ⟨2, ![4096, 4608]⟩
abbrev S128x4608 : Shape := ⟨2, ![128, 4608]⟩
abbrev S4608 : Shape := ⟨1, ![4608]⟩
abbrev S2097152x32 : Shape := ⟨2, ![2097152, 32]⟩
abbrev S_ : Shape := ⟨0, ![]⟩
abbrev S2097152 : Shape := ⟨1, ![2097152]⟩

class Facts : Prop where
  bitsLt_bf16_f32 : FTy.bits .bf16 < FTy.bits .f32
  shapeCasts_S8x2048x4096_S2097152x32 : S8x2048x4096.ShapeCasts S2097152x32
  reducesTo_S2097152x32_S2097152_d1 : S2097152x32.ReducesTo [1] S2097152
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S2097152 : S_.BroadcastsInDim S2097152 (![] : Fin 0 → Fin S2097152.rank)
  reducesTo_S2097152_S_d0 : S2097152.ReducesTo [0] S_
  bcast_S_S128x4608 : S_.BroadcastsInDim S128x4608 (![] : Fin 0 → Fin S128x4608.rank)
  reducesTo_S128x4608_S_d0_1 : S128x4608.ReducesTo [0, 1] S_

variable [Facts]

def fn_part1 {F : FTy → Type} [FloatOps F] (main_arg2 : IVec S128x4608 8) (main_v13 : IVec S_ 1) (main_v15 : IVec S128x4608 1) (main_c_5 : IVec S_ 8) : IVec S_ 1 :=
  let main_v16 : IVec S128x4608 8 := broadcastInDim S128x4608 ![] bcast_S_S128x4608 main_c_5
  let main_v17 : IVec S128x4608 1 := cmpi .ule main_arg2 main_v16
  let main_v18 : IVec S128x4608 1 := andi main_v15 main_v17
  let main_c_6 : IVec S_ 1 := constantI S_ 1 1#1
  let main_v19 : IVec S_ 1 := (fun x v => Host.reduce IntOp.andi x v reducesTo_S128x4608_S_d0_1 h_S_) main_v18 main_c_6
  let main_v20 : IVec S_ 1 := andi main_v13 main_v19
  main_v20

def fn {F : FTy → Type} [FloatOps F] (main_arg0 : FVec F S8x2048x4096 .bf16) (main_arg1 : FVec F S4096x4608 .fp8e4m3) (main_arg2 : IVec S128x4608 8) (main_arg3 : FVec F S4608 .f32) : IVec S_ 1 :=
  let main_v0 : FVec F S8x2048x4096 .f32 := (extf .f32 · bitsLt_bf16_f32) main_arg0
  let main_v1 : FVec F S8x2048x4096 .f32 := Host.absf main_v0
  let main_v2 : FVec F S2097152x32 .f32 := shapeCast S2097152x32 main_v1 shapeCasts_S8x2048x4096_S2097152x32
  let main_cst : FVec F S_ .f32 := constant S_ .f32 0xFF800000#32
  let main_v3 : FVec F S2097152 .f32 := (fun x v => Host.reduce FloatOps.maximumf x v reducesTo_S2097152x32_S2097152_d1 h_S_) main_v2 main_cst
  let main_cst_0 : FVec F S_ .f32 := constant S_ .f32 0x7F7F0000#32
  let main_v4 : FVec F S8x2048x4096 .f32 := broadcastInDim S8x2048x4096 ![] bcast_S_S8x2048x4096 main_cst_0
  let main_v5 : IVec S8x2048x4096 1 := cmpf .ole main_v1 main_v4
  let main_c : IVec S_ 1 := constantI S_ 1 1#1
  let main_v6 : IVec S_ 1 := (fun x v => Host.reduce IntOp.andi x v reducesTo_S8x2048x4096_S_d0_1_2 h_S_) main_v5 main_c
  let main_cst_1 : FVec F S_ .f32 := constant S_ .f32 0x00000000#32
  let main_v7 : FVec F S2097152 .f32 := broadcastInDim S2097152 ![] bcast_S_S2097152 main_cst_1
  let main_v8 : IVec S2097152 1 := cmpf .oeq main_v3 main_v7
  let main_cst_2 : FVec F S_ .f32 := constant S_ .f32 0x04600000#32
  let main_v9 : FVec F S2097152 .f32 := broadcastInDim S2097152 ![] bcast_S_S2097152 main_cst_2
  let main_v10 : IVec S2097152 1 := cmpf .oge main_v3 main_v9
  let main_v11 : IVec S2097152 1 := ori main_v8 main_v10
  let main_c_3 : IVec S_ 1 := constantI S_ 1 1#1
  let main_v12 : IVec S_ 1 := (fun x v => Host.reduce IntOp.andi x v reducesTo_S2097152_S_d0 h_S_) main_v11 main_c_3
  let main_v13 : IVec S_ 1 := andi main_v6 main_v12
  let main_c_4 : IVec S_ 8 := constantI S_ 8 1#8
  let main_v14 : IVec S128x4608 8 := broadcastInDim S128x4608 ![] bcast_S_S128x4608 main_c_4
  let main_v15 : IVec S128x4608 1 := cmpi .uge main_arg2 main_v14
  let main_c_5 : IVec S_ 8 := constantI S_ 8 254#8
  fn_part1 (F := F) main_arg2 main_v13 main_v15 main_c_5
-- ==== Kernel.lean ====
abbrev S8x2048x4096 : Shape := ⟨3, ![8, 2048, 4096]⟩
abbrev S4096x4608 : Shape := ⟨2, ![4096, 4608]⟩
abbrev S128x4608 : Shape := ⟨2, ![128, 4608]⟩
abbrev S4608 : Shape := ⟨1, ![4608]⟩
abbrev S512x4608 : Shape := ⟨2, ![512, 4608]⟩
abbrev S16x4608 : Shape := ⟨2, ![16, 4608]⟩
abbrev S16x32x4608 : Shape := ⟨3, ![16, 32, 4608]⟩
abbrev S16x1x4608 : Shape := ⟨3, ![16, 1, 4608]⟩
abbrev S16384x4096 : Shape := ⟨2, ![16384, 4096]⟩
abbrev S1x4608 : Shape := ⟨2, ![1, 4608]⟩
abbrev S16384x4608 : Shape := ⟨2, ![16384, 4608]⟩
abbrev S16384x128 : Shape := ⟨2, ![16384, 128]⟩
abbrev S256x4096 : Shape := ⟨2, ![256, 4096]⟩
abbrev S256x4608 : Shape := ⟨2, ![256, 4608]⟩
abbrev S256x128 : Shape := ⟨2, ![256, 128]⟩
abbrev S4096x256 : Shape := ⟨2, ![4096, 256]⟩
abbrev S128x32x256 : Shape := ⟨3, ![128, 32, 256]⟩
abbrev S128x256 : Shape := ⟨2, ![128, 256]⟩
abbrev S128x2x128 : Shape := ⟨3, ![128, 2, 128]⟩
abbrev S128x1x128 : Shape := ⟨3, ![128, 1, 128]⟩
abbrev S128x128 : Shape := ⟨2, ![128, 128]⟩
abbrev S128x128x1 : Shape := ⟨3, ![128, 128, 1]⟩

abbrev nBuf : Space → Nat
  | .hbm => 10
  | .vmem => 17
  | .smem => 0
  | _ => 0

abbrev bufTy : (tb : Table) → Fin (tcTables nBuf tb) → BufTy
  | .hbm, ⟨0, _⟩ => ⟨S8x2048x4096, .bf16⟩
  | .hbm, ⟨1, _⟩ => ⟨S4096x4608, .fp8e4m3⟩
  | .hbm, ⟨2, _⟩ => ⟨S128x4608, .i8⟩
  | .hbm, ⟨3, _⟩ => ⟨S4608, .f32⟩
  | .hbm, ⟨4, _⟩ => ⟨S4096x4608, .bf16⟩
  | .hbm, ⟨5, _⟩ => ⟨S16384x4096, .bf16⟩
  | .hbm, ⟨6, _⟩ => ⟨S1x4608, .f32⟩
  | .hbm, ⟨7, _⟩ => ⟨S16384x4608, .bf16⟩
  | .hbm, ⟨8, _⟩ => ⟨S16384x4096, .fp8e4m3⟩
  | .hbm, ⟨9, _⟩ => ⟨S16384x128, .i8⟩
  | .local _ .vmem, ⟨0, _⟩ => ⟨S512x4608, .fp8e4m3⟩
  | .local _ .vmem, ⟨1, _⟩ => ⟨S512x4608, .fp8e4m3⟩
  | .local _ .vmem, ⟨2, _⟩ => ⟨S16x4608, .i8⟩
  | .local _ .vmem, ⟨3, _⟩ => ⟨S16x4608, .i8⟩
  | .local _ .vmem, ⟨4, _⟩ => ⟨S512x4608, .bf16⟩
  | .local _ .vmem, ⟨5, _⟩ => ⟨S512x4608, .bf16⟩
  | .local _ .vmem, ⟨6, _⟩ => ⟨S256x4096, .bf16⟩
  | .local _ .vmem, ⟨7, _⟩ => ⟨S256x4096, .bf16⟩
  | .local _ .vmem, ⟨8, _⟩ => ⟨S4096x4608, .bf16⟩
  | .local _ .vmem, ⟨9, _⟩ => ⟨S1x4608, .f32⟩
  | .local _ .vmem, ⟨10, _⟩ => ⟨S256x4608, .bf16⟩
  | .local _ .vmem, ⟨11, _⟩ => ⟨S256x4608, .bf16⟩
  | .local _ .vmem, ⟨12, _⟩ => ⟨S256x4096, .fp8e4m3⟩
  | .local _ .vmem, ⟨13, _⟩ => ⟨S256x4096, .fp8e4m3⟩
  | .local _ .vmem, ⟨14, _⟩ => ⟨S256x128, .i8⟩
  | .local _ .vmem, ⟨15, _⟩ => ⟨S256x128, .i8⟩
  | .local _ .vmem, ⟨16, _⟩ => ⟨S256x4096, .bf16⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4608 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4608 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4608 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4608 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4608 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x128 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S8x2048x4096 : Shape := ⟨3, ![8, 2048, 4096]⟩
abbrev S4096x4608 : Shape := ⟨2, ![4096, 4608]⟩
abbrev S128x4608 : Shape := ⟨2, ![128, 4608]⟩
abbrev S4608 : Shape := ⟨1, ![4608]⟩
abbrev S16384x4096 : Shape := ⟨2, ![16384, 4096]⟩
abbrev S1x4608 : Shape := ⟨2, ![1, 4608]⟩
abbrev S16384x4608 : Shape := ⟨2, ![16384, 4608]⟩
abbrev S16384x128 : Shape := ⟨2, ![16384, 128]⟩
abbrev S16384x128x32 : Shape := ⟨3, ![16384, 128, 32]⟩
abbrev S16384x128x1 : Shape := ⟨3, ![16384, 128, 1]⟩
abbrev S128x32x4608 : Shape := ⟨3, ![128, 32, 4608]⟩
abbrev S128x16384x32 : Shape := ⟨3, ![128, 16384, 32]⟩
abbrev S128x16384x4608 : Shape := ⟨3, ![128, 16384, 4608]⟩
abbrev S128x16384 : Shape := ⟨2, ![128, 16384]⟩
abbrev S128x16384x1 : Shape := ⟨3, ![128, 16384, 1]⟩
abbrev S128x1x4608 : Shape := ⟨3, ![128, 1, 4608]⟩

abbrev nBuf : Space → Nat
  | .hbm => 9
  | .vmem => 7
  | .smem => 0
  | _ => 0

abbrev bufTy : (tb : Table) → Fin (tcTables nBuf tb) → BufTy
  | .hbm, ⟨0, _⟩ => ⟨S8x2048x4096, .bf16⟩
  | .hbm, ⟨1, _⟩ => ⟨S4096x4608, .fp8e4m3⟩
  | .hbm, ⟨2, _⟩ => ⟨S128x4608, .i8⟩
  | .hbm, ⟨3, _⟩ => ⟨S4608, .f32⟩
  | .hbm, ⟨4, _⟩ => ⟨S16384x4096, .bf16⟩
  | .hbm, ⟨5, _⟩ => ⟨S1x4608, .f32⟩
  | .hbm, ⟨6, _⟩ => ⟨S16384x4608, .bf16⟩
  | .hbm, ⟨7, _⟩ => ⟨S16384x4096, .fp8e4m3⟩
  | .hbm, ⟨8, _⟩ => ⟨S16384x128, .i8⟩
  | .local _ .vmem, ⟨0, _⟩ => ⟨S16384x4096, .bf16⟩
  | .local _ .vmem, ⟨1, _⟩ => ⟨S4096x4608, .fp8e4m3⟩
  | .local _ .vmem, ⟨2, _⟩ => ⟨S128x4608, .i8⟩
  | .local _ .vmem, ⟨3, _⟩ => ⟨S1x4608, .f32⟩
  | .local _ .vmem, ⟨4, _⟩ => ⟨S16384x4608, .bf16⟩
  | .local _ .vmem, ⟨5, _⟩ => ⟨S16384x4096, .fp8e4m3⟩
  | .local _ .vmem, ⟨6, _⟩ => ⟨S16384x128, .i8⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4608 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x128 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
/- The run of the kernel program with its results: what the machine's memory holds at the three results when the two
   regions and the host operations between them have run. -/
module

public import proofs.«01_k».proof.Proof.Gen.KernelIdeal.Frame
public import Idealize.ShloMosaic.Adequacy
public import Idealize.ShloMosaic.Init

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- The run of the whole program: it terminates, and at the end the three results hold what the second region's
    pipeline leaves in its output arrays and the arguments are as launched. The proof is that of `Gen.frame`, the last
    thread state read at the results too. -/
theorem run_values : θ_run defs (onTc (τ := τ) (main (F := F))) ⟨m, fun _ => 0, ρ⟩ (fun r => ∀ c : Dev nD,
      r.2.mem ((c.tc : Thread nD τ).loc main_v3_0) = (dat1 (V2 m ρ) c).arrAt 3 cfg1.N
      ∧ r.2.mem ((c.tc : Thread nD τ).loc main_v3_1) = (dat1 (V2 m ρ) c).arrAt 4 cfg1.N
      ∧ r.2.mem ((c.tc : Thread nD τ).loc main_v3_2) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v3_0 (by decide))).trans (W3_arr m ρ c 3),
       (h c _ (mem_uc main_v3_1 (by decide))).trans (W3_arr m ρ c 4),
       (h c _ (mem_uc main_v3_2 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Gen

end
-- ==== Proof.Exponent.lean ====
/- The scale of a group of 32: the kernel searches the largest bf16 pattern not above the group's maximum, bit by bit, and
   takes the exponent from that pattern; the reference takes a logarithm. Here both are shown to be the same integer. -/
module

public import Idealize.ShloMosaic.PureOps
public import Idealize.ShloMosaic.Lib.IdealHost

@[expose] public section

noncomputable section

namespace Cert.Mxfp8

open Idealize.ShloMosaic

/-! ## What a pattern denotes -/

/-- The real number of the nonnegative bf16 pattern `n`, below the pattern of infinity. -/
def patReal (n : ℕ) : ℝ :=
  if n / 128 = 0 then ((n % 128 : ℕ) : ℝ) * (2 : ℝ) ^ (-133 : ℤ) else ((128 + n % 128 : ℕ) : ℝ) * (2 : ℝ) ^ (((n / 128 : ℕ) : ℤ) - 134)

/-- The same with infinity at and above its pattern. -/
def patVal (n : ℕ) : EReal := if n < 32640 then (patReal n : EReal) else ⊤

/-- The f32 word of a bf16 pattern, read over the extended reals. -/
theorem ofBits_f32_pat (n : ℕ) (h : n ≤ 32640) : Ideal.ofBits .f32 (BitVec.ofNat 32 (n * 65536)) = patVal n := by
  have h1 : ((BitVec.ofNat 32 (n * 65536)).extractLsb' 23 8).toNat = n / 128 := by
    simp only [BitVec.extractLsb'_toNat, BitVec.toNat_ofNat, Nat.shiftRight_eq_div_pow]; omega
  have h2 : ((BitVec.ofNat 32 (n * 65536)).extractLsb' 0 23).toNat = (n % 128) * 65536 := by
    simp only [BitVec.extractLsb'_toNat, BitVec.toNat_ofNat, Nat.shiftRight_eq_div_pow]; omega
  have h3 : ((BitVec.ofNat 32 (n * 65536)).extractLsb' 31 1 == 1#1) = false := by
    rw [beq_eq_false_iff_ne]; intro e
    have := congrArg BitVec.toNat e
    simp only [BitVec.extractLsb'_toNat, BitVec.toNat_ofNat, Nat.shiftRight_eq_div_pow] at this
    omega
  show Ideal.ieee 8 23 _ = _
  unfold Ideal.ieee patVal patReal
  simp only [h1, h2, h3]
  by_cases hn : n < 32640
  · rw [if_pos hn, if_neg (by omega)]
    by_cases h0 : n / 128 = 0
    · rw [if_pos h0, if_pos h0]
      congr 1
      push_cast
      rw [show (-133 : ℤ) = 16 + (-149) by norm_num, zpow_add₀ two_ne_zero]
      norm_num; ring
    · rw [if_neg h0, if_neg h0]
      congr 1
      generalize n / 128 = E
      push_cast
      rw [show (E : ℤ) - 134 = 16 + ((E : ℤ) - (2 ^ (8 - 1) - 1) - 23) by norm_num; ring, zpow_add₀ two_ne_zero]
      norm_num; ring
  · have : n = 32640 := by omega
    subst this; norm_num

/-- Twice the exponent field, nothing in the fraction: a power of two, in bf16. -/
theorem ofBits_bf16_pow (b : ℕ) (h1 : 1 ≤ b) (h2 : b ≤ 254) :
    Ideal.ofBits .bf16 (BitVec.ofNat 16 (b * 128)) = (((2 : ℝ) ^ ((b : ℤ) - 127) : ℝ) : EReal) := by
  have e1 : ((BitVec.ofNat 16 (b * 128)).extractLsb' 7 8).toNat = b := by
    simp only [BitVec.extractLsb'_toNat, BitVec.toNat_ofNat, Nat.shiftRight_eq_div_pow]; omega
  have e2 : ((BitVec.ofNat 16 (b * 128)).extractLsb' 0 7).toNat = 0 := by
    simp only [BitVec.extractLsb'_toNat, BitVec.toNat_ofNat, Nat.shiftRight_eq_div_pow]; omega
  have e3 : ((BitVec.ofNat 16 (b * 128)).extractLsb' 15 1 == 1#1) = false := by
    rw [beq_eq_false_iff_ne]; intro e
    have := congrArg BitVec.toNat e
    simp only [BitVec.extractLsb'_toNat, BitVec.toNat_ofNat, Nat.shiftRight_eq_div_pow] at this
    omega
  show Ideal.ieee 8 7 _ = _
  unfold Ideal.ieee
  simp only [e1, e2, e3]
  rw [if_neg (by omega), if_neg (by omega)]
  congr 1
  rw [show (b : ℤ) - 127 = 7 + ((b : ℤ) - (2 ^ (8 - 1) - 1) - (7 : ℕ)) by norm_num, zpow_add₀ two_ne_zero]
  norm_num

/-- The same in f32. -/
theorem ofBits_f32_pow (b : ℕ) (h1 : 1 ≤ b) (h2 : b ≤ 254) :
    Ideal.ofBits .f32 (BitVec.ofNat 32 (b * 8388608)) = (((2 : ℝ) ^ ((b : ℤ) - 127) : ℝ) : EReal) := by
  rw [show b * 8388608 = (b * 128) * 65536 by ring, ofBits_f32_pat _ (by omega), patVal, if_pos (by omega), patReal,
    if_neg (by omega)]
  congr 1
  rw [show b * 128 / 128 = b by omega, show b * 128 % 128 = 0 by omega,
    show (b : ℤ) - 127 = 7 + ((b : ℤ) - 134) by ring, zpow_add₀ two_ne_zero]
  norm_num

/-- The patterns are in the order of their numbers. -/
theorem patReal_succ (n : ℕ) : patReal n ≤ patReal (n + 1) := by
  unfold patReal
  by_cases h0 : (n + 1) / 128 = 0
  · rw [if_pos h0, if_pos (by omega), show (n + 1) % 128 = n % 128 + 1 by omega]
    gcongr; simp
  · rw [if_neg h0]
    by_cases h1 : n / 128 = 0
    · rw [if_pos h1]
      have : n = 127 := by omega
      subst this; norm_num
    · rw [if_neg h1]
      by_cases h2 : (n + 1) % 128 = 0
      · rw [h2, show (n + 1) / 128 = n / 128 + 1 by omega,
          show (((n / 128 + 1 : ℕ) : ℤ) - 134) = 1 + (((n / 128 : ℕ) : ℤ) - 134) by push_cast; ring, zpow_add₀ two_ne_zero,
          zpow_one, ← mul_assoc]
        gcongr
        have : (n % 128 : ℕ) < 128 := Nat.mod_lt _ (by norm_num)
        have : ((128 + n % 128 : ℕ) : ℝ) ≤ ((256 : ℕ) : ℝ) := by exact_mod_cast (by omega)
        push_cast at *; linarith
      · rw [show (n + 1) / 128 = n / 128 by omega, show (n + 1) % 128 = n % 128 + 1 by omega]
        gcongr; simp

theorem patReal_mono : Monotone patReal := monotone_nat_of_le_succ patReal_succ

/-- The threshold of the format's maximum `448 = 1.75 · 2^8`: the pattern three quarters into a binade. -/
theorem patReal_threshold (q : ℕ) (h : 1 ≤ q) : patReal (128 * q + 96) = 448 * (2 : ℝ) ^ ((q : ℤ) - 135) := by
  unfold patReal
  rw [if_neg (by omega), show (128 * q + 96) / 128 = q by omega, show (128 * q + 96) % 128 = 96 by omega,
    show (q : ℤ) - 134 = 1 + ((q : ℤ) - 135) by ring, zpow_add₀ two_ne_zero]
  norm_num; ring

/-! ## The search -/

/-- One bit of the search: the bit is kept if the pattern with it is not above `a`. -/
def stepBit (d : BitVec 32) (a : EReal) (w : BitVec 32) : BitVec 32 :=
  if Ideal.ofBits .f32 ((w + d) <<< 16) ≤ a then w + d else w

/-- What the search knows when the bits from `k` up are settled: the pattern so far is not above `a`, and it is above with `2^k` more. -/
def Settled (a : EReal) (k : ℕ) (w : BitVec 32) : Prop :=
  2 ^ k ∣ w.toNat ∧ patVal w.toNat ≤ a ∧ a < patVal (w.toNat + 2 ^ k)

/-- There is room for one more bit below the pattern of infinity. -/
theorem search_room (k n : ℕ) (hk : k < 15) (hd : 2 ^ (k + 1) ∣ n) (h : n < 32640) : n + 2 ^ k ≤ 32640 := by
  obtain ⟨j, rfl⟩ := hd
  interval_cases k <;> simp only [Nat.reduceAdd, Nat.reducePow] at h ⊢ <;> omega

theorem settled_step {a : EReal} (ha : a < ⊤) {k : ℕ} (hk : k < 15) {w : BitVec 32} (h : Settled a (k + 1) w) :
    Settled a k (stepBit (BitVec.ofNat 32 (2 ^ k)) a w) := by
  obtain ⟨hd, hlo, hhi⟩ := h
  have hw : w.toNat < 32640 := by
    by_contra hc
    rw [patVal, if_neg hc] at hlo
    exact absurd (lt_of_le_of_lt hlo ha) (lt_irrefl _)
  have ht : w.toNat + 2 ^ k ≤ 32640 := search_room k _ hk hd hw
  have hp : 2 ^ k < 32768 := lt_of_lt_of_le (Nat.pow_lt_pow_right (by norm_num) hk) (by norm_num)
  have htn : (w + BitVec.ofNat 32 (2 ^ k)).toNat = w.toNat + 2 ^ k := by
    rw [BitVec.toNat_add, BitVec.toNat_ofNat]; omega
  have hv : Ideal.ofBits .f32 ((w + BitVec.ofNat 32 (2 ^ k)) <<< 16) = patVal (w.toNat + 2 ^ k) := by
    rw [← ofBits_f32_pat _ ht]
    refine congrArg (Ideal.ofBits .f32) (BitVec.eq_of_toNat_eq ?_)
    rw [BitVec.toNat_shiftLeft, htn, BitVec.toNat_ofNat, Nat.shiftLeft_eq]
  have hd' : 2 ^ k ∣ w.toNat := dvd_trans (pow_dvd_pow 2 (Nat.le_succ k)) hd
  unfold stepBit
  rw [hv]
  by_cases hc : patVal (w.toNat + 2 ^ k) ≤ a
  · rw [if_pos hc]
    refine ⟨?_, ?_, ?_⟩
    · rw [htn]; exact (Nat.dvd_add_right hd').mpr dvd_rfl
    · rw [htn]; exact hc
    · rw [htn, Nat.add_assoc, ← Nat.two_mul, ← Nat.pow_succ']; exact hhi
  · rw [if_neg hc]
    exact ⟨hd', hlo, not_le.mp hc⟩

/-- The whole search, from the highest bit down. -/
def searchWord (a : EReal) : BitVec 32 :=
  stepBit 1#32 a (stepBit 2#32 a (stepBit 4#32 a (stepBit 8#32 a (stepBit 16#32 a (stepBit 32#32 a (stepBit 64#32 a (stepBit 128#32 a
    (stepBit 256#32 a (stepBit 512#32 a (stepBit 1024#32 a (stepBit 2048#32 a (stepBit 4096#32 a (stepBit 8192#32 a
      (stepBit 16384#32 a 0#32))))))))))))))

theorem searchWord_settled {a : EReal} (h0 : 0 ≤ a) (ha : a < ⊤) : Settled a 0 (searchWord a) := by
  have hs : Settled a 15 0#32 := by
    refine ⟨by simp, ?_, ?_⟩
    · simpa [patVal, patReal] using h0
    · simpa [patVal] using ha
  unfold searchWord
  exact settled_step ha (k := 0) (by norm_num) (settled_step ha (k := 1) (by norm_num) (settled_step ha (k := 2) (by norm_num)
    (settled_step ha (k := 3) (by norm_num) (settled_step ha (k := 4) (by norm_num) (settled_step ha (k := 5) (by norm_num)
    (settled_step ha (k := 6) (by norm_num) (settled_step ha (k := 7) (by norm_num) (settled_step ha (k := 8) (by norm_num)
    (settled_step ha (k := 9) (by norm_num) (settled_step ha (k := 10) (by norm_num) (settled_step ha (k := 11) (by norm_num)
    (settled_step ha (k := 12) (by norm_num) (settled_step ha (k := 13) (by norm_num) (settled_step ha (k := 14) (by norm_num)
      hs))))))))))))))

/-! ## The two exponents -/

/-- The kernel's biased exponent of a group whose maximum is `a`. -/
def kernelBiased (a : EReal) : BitVec 32 :=
  Scalar.select (Ideal.cmp .oeq a (Ideal.ofBits .f32 0#32)) 127#32
    (IntOp.maxsi (IntOp.subi (IntOp.shrsi .vector (IntOp.addi (searchWord a) 32#32) 7#32) 8#32) 0#32)

/-- The reference's exponent of a group whose maximum is `a`. -/
def refExponent (a : EReal) : BitVec 32 :=
  IntOp.minsi 127#32 (IntOp.maxsi 4294967169#32 (Scalar.select (Ideal.cmp .oeq a (Ideal.ofBits .f32 0#32)) 0#32
    (IntOp.addi (Ideal.fptosi 32 (Ideal.liftRound Int.floor (Ideal.div (Ideal.log (Ideal.div a (Ideal.ofBits .f32 0x43E00000#32)))
      (Ideal.log (Ideal.ofBits .f32 0x40000000#32))))) 1#32)))

theorem ofBits_448 : Ideal.ofBits .f32 0x43E00000#32 = ((448 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_zero : Ideal.ofBits .f32 0#32 = 0 := by
  simp [Ideal.ofBits, Ideal.ieee]

/-- The floor of the base-two logarithm, as the reference writes it. -/
theorem log_floor {r : ℝ} {f : ℤ} (h1 : 448 * (2 : ℝ) ^ f ≤ r) (h2 : r < 448 * (2 : ℝ) ^ (f + 1)) :
    Ideal.liftRound Int.floor (Ideal.div (Ideal.log (Ideal.div (r : EReal) ((448 : ℝ) : EReal))) (Ideal.log ((2 : ℝ) : EReal)))
      = ((f : ℝ) : EReal) := by
  have hp : (0 : ℝ) < r := lt_of_lt_of_le (by positivity) h1
  have hl2 : (0 : ℝ) < Real.log 2 := Real.log_pos (by norm_num)
  rw [Ideal.div_coe (by norm_num), ← EReal.coe_mul, Ideal.log_coe, if_neg (not_le.mpr (by positivity)), Ideal.log_coe,
    if_neg (by norm_num), Ideal.div_coe hl2.ne', ← EReal.coe_mul, Ideal.liftRound_coe]
  congr 2
  have hq : r * (1 / 448) = r / 448 := by ring
  rw [hq, Int.floor_eq_iff, mul_one_div, le_div_iff₀ hl2, div_lt_iff₀ hl2]
  have e1 : (f : ℝ) * Real.log 2 = Real.log ((2 : ℝ) ^ f) := by rw [Real.log_zpow]
  have e2 : ((f : ℝ) + 1) * Real.log 2 = Real.log ((2 : ℝ) ^ (f + 1)) := by rw [Real.log_zpow]; push_cast; ring
  rw [e1, e2]
  refine ⟨Real.log_le_log (by positivity) ?_, Real.log_lt_log (by positivity) ?_⟩
  · rw [le_div_iff₀ (by norm_num)]; linarith
  · rw [div_lt_iff₀ (by norm_num)]; linarith

/-- The two clips leave a small exponent alone. -/
theorem ref_clip (k : Fin 256) : IntOp.minsi 127#32 (IntOp.maxsi 4294967169#32 (IntOp.addi (BitVec.ofInt 32 ((k : ℤ) - 128)) 1#32))
    = BitVec.ofInt 32 ((k : ℤ) - 127) ∨ 254 ≤ k.val := by
  revert k; decide +kernel

/-- The kernel's shift and clip, at a pattern `n`. -/
theorem kernel_clip (w : BitVec 32) (h : w.toNat < 32640) (h8 : 8 ≤ (w.toNat + 32) / 128) :
    IntOp.maxsi (IntOp.subi (IntOp.shrsi .vector (IntOp.addi w 32#32) 7#32) 8#32) 0#32 = BitVec.ofNat 32 ((w.toNat + 32) / 128 - 8) := by
  have h1 : (w + 32#32).toNat = w.toNat + 32 := by rw [BitVec.toNat_add]; simp; omega
  have h2 : (w + 32#32).sshiftRight' 7#32 = BitVec.ofNat 32 ((w.toNat + 32) / 128) := by
    apply BitVec.eq_of_toNat_eq
    rw [BitVec.sshiftRight_eq', BitVec.toNat_sshiftRight_of_msb_false]
    · rw [h1, BitVec.toNat_ofNat, Nat.shiftRight_eq_div_pow]; simp; omega
    · rw [BitVec.msb_eq_false_iff_two_mul_lt, h1]; omega
  have h3 : BitVec.ofNat 32 ((w.toNat + 32) / 128) - 8#32 = BitVec.ofNat 32 ((w.toNat + 32) / 128 - 8) := by
    apply BitVec.eq_of_toNat_eq
    rw [BitVec.toNat_sub, BitVec.toNat_ofNat, BitVec.toNat_ofNat]; simp; omega
  have h4 : IntOp.subi (IntOp.shrsi .vector (IntOp.addi w 32#32) 7#32) 8#32 = BitVec.ofNat 32 ((w.toNat + 32) / 128 - 8) := by
    unfold IntOp.subi IntOp.shrsi IntOp.addi
    rw [if_pos (by decide), h2, h3]
  rw [h4]
  unfold IntOp.maxsi
  split
  · rfl
  · rename_i hs
    have hk : (BitVec.ofNat 32 ((w.toNat + 32) / 128 - 8)).toInt = (((w.toNat + 32) / 128 - 8 : ℕ) : ℤ) := by
      rw [BitVec.toInt_eq_toNat_of_lt (by rw [BitVec.toNat_ofNat]; omega), BitVec.toNat_ofNat]
      congr 1; omega
    rw [BitVec.slt_iff_toInt_lt, hk] at hs
    have : (w.toNat + 32) / 128 - 8 = 0 := by simp only [BitVec.toInt_zero] at hs; omega
    rw [this]

/-- What is asked of a group's maximum: it is zero, or large enough that its scale is a normal power of two, and it is a bf16 number. -/
def GoodMax (a : EReal) : Prop := a = 0 ∨ (((448 * (2 : ℝ) ^ (-127 : ℤ) : ℝ) : EReal) ≤ a ∧ a ≤ ((patReal 32639 : ℝ) : EReal))

/-- Both exponents are one integer, the kernel's with the bias 127. -/
theorem exponents {a : EReal} (h : GoodMax a) : ∃ b : ℕ, 1 ≤ b ∧ b ≤ 247 ∧ kernelBiased a = BitVec.ofNat 32 b
    ∧ refExponent a = BitVec.ofInt 32 ((b : ℤ) - 127) := by
  rcases h with rfl | ⟨hlo, hhi⟩
  · refine ⟨127, by norm_num, by norm_num, ?_, ?_⟩
    · unfold kernelBiased; rw [ofBits_zero]; simp [Ideal.cmp, Scalar.select]
    · unfold refExponent; rw [ofBits_zero]; simp [Ideal.cmp, Scalar.select]; decide
  · induction a using EReal.rec with
    | bot => exact absurd hlo (not_le.mpr (EReal.bot_lt_coe _))
    | top => exact absurd hhi (not_le.mpr (EReal.coe_lt_top _))
    | coe r =>
      rw [EReal.coe_le_coe_iff] at hlo hhi
      have hpos : (0 : ℝ) < r := lt_of_lt_of_le (by positivity) hlo
      have hne : ((r : EReal) = 0) = False := by simpa using hpos.ne'
      obtain ⟨-, hs1, hs2⟩ := searchWord_settled (a := (r : EReal)) (by exact_mod_cast hpos.le) (EReal.coe_lt_top r)
      generalize hw : searchWord (r : EReal) = w at hs1 hs2
      have hwlt : w.toNat < 32640 := by
        by_contra hc
        rw [patVal, if_neg hc] at hs1
        exact absurd hs1 (by simp)
      rw [patVal, if_pos hwlt, EReal.coe_le_coe_iff] at hs1
      have hup : ∀ q : ℕ, 1 ≤ q → w.toNat + 1 ≤ 128 * q + 96 → r < 448 * (2 : ℝ) ^ ((q : ℤ) - 135) := by
        intro q hq hle
        rw [← patReal_threshold q hq]
        by_cases hc : w.toNat + 2 ^ 0 < 32640
        · rw [patVal, if_pos hc, EReal.coe_lt_coe_iff] at hs2
          exact lt_of_lt_of_le hs2 (patReal_mono hle)
        · refine lt_of_le_of_lt hhi ?_
          have h255 : 255 ≤ q := by omega
          refine lt_of_lt_of_le ?_ (patReal_mono (show 128 * 255 + 96 ≤ 128 * q + 96 by omega))
          rw [patReal_threshold 255 (by norm_num)]
          norm_num [patReal]
      have h8 : 8 ≤ (w.toNat + 32) / 128 := by
        by_contra hc
        have := hup 7 (by norm_num) (by omega)
        have h' : (448 : ℝ) * 2 ^ (((7 : ℕ) : ℤ) - 135) < 448 * 2 ^ (-127 : ℤ) := by
          norm_num
        linarith
      set q := (w.toNat + 32) / 128 with hq
      have hu := hup q (by omega) (by omega)
      have hl : 448 * (2 : ℝ) ^ (((q - 1 : ℕ) : ℤ) - 135) ≤ r := by
        rw [← patReal_threshold (q - 1) (by omega)]
        exact le_trans (patReal_mono (by omega)) hs1
      refine ⟨q - 8, ?_, by omega, ?_, ?_⟩
      · by_contra hc
        have hq8 : q = 8 := by omega
        rw [hq8] at hu
        have h' : (448 : ℝ) * 2 ^ (((8 : ℕ) : ℤ) - 135) = 448 * 2 ^ (-127 : ℤ) := by norm_num
        linarith
      · unfold kernelBiased
        rw [ofBits_zero, hw, kernel_clip w hwlt h8]
        simp [Ideal.cmp, Scalar.select, hpos.ne', hq]
      · unfold refExponent
        rw [ofBits_zero, ofBits_448, ofBits_two, log_floor (f := (q : ℤ) - 136)
          (by rw [show (q : ℤ) - 136 = ((q - 1 : ℕ) : ℤ) - 135 by omega]; exact hl)
          (by rw [show (q : ℤ) - 136 + 1 = (q : ℤ) - 135 by ring]; exact hu)]
        have hsel : Scalar.select (Ideal.cmp .oeq (r : EReal) 0) 0#32
            (IntOp.addi (Ideal.fptosi 32 (((((q : ℤ) - 136 : ℤ) : ℝ)) : EReal)) 1#32)
            = IntOp.addi (BitVec.ofInt 32 (((q - 8 : ℕ) : ℤ) - 128)) 1#32 := by
          have hf : Ideal.fptosi 32 (((((q : ℤ) - 136 : ℤ) : ℝ)) : EReal) = BitVec.ofInt 32 (((q - 8 : ℕ) : ℤ) - 128) := by
            unfold Ideal.fptosi
            rw [Ideal.toIntClamped_coe, Int.floor_intCast, Int.ceil_intCast, ite_self]
            congr 1; norm_num; omega
          rw [hf]
          simp [Ideal.cmp, Scalar.select, hpos.ne']
        rw [hsel]
        have := ref_clip ⟨q - 8, by omega⟩
        rcases this with h | h
        · exact h
        · exact absurd h (by simp; omega)

end Cert.Mxfp8

end
-- ==== Proof.KernelChunk.lean ====
/- What one chunk of 128 columns of the kernel's quantising loop computes, read at an index. -/
module
public import proofs.«01_k».proof.Proof.Gen.KernelIdeal.Frame
public import proofs.«01_k».proof.Proof.Exponent
public import Idealize.ShloMosaic.Lib.Pipeline.ValueKit
@[expose] public section
set_option maxRecDepth 16384
noncomputable section
namespace Cert.KernelIdeal.Gen
open Idealize.ShloMosaic Idealize.ShloMosaic.TcCoe Idealize.ShloMosaic.Tactic
open Cert.KernelIdeal Cert.Mxfp8

/-- Clip to the format's range. -/
def clip (v : EReal) : EReal :=
  min (Scalar.ofBits .f32 0x43E00000#32 : Idealize.ShloMosaic.Ideal .f32) (max (Scalar.ofBits .f32 0xC3E00000#32 : Idealize.ShloMosaic.Ideal .f32) v)

/-- The kernel's clip and conversion at an index, at any two bounds. -/
theorem clip_apply {s : Shape} (hi lo : Idealize.ShloMosaic.Ideal .f32) (v : FVec Ideal s .bf16) (i : s.Idx) :
    truncf .fp8e4m3 (minimumf (broadcast s (Scalar.truncf .bf16 bitsLt_bf16_f32 hi))
      (maximumf (broadcast s (Scalar.truncf .bf16 bitsLt_bf16_f32 lo)) v)) bitsLt_fp8e4m3_bf16 i = (min hi (max lo (v i)) : EReal) := rfl

/-- The lane each lane of chunk `c` gathers its group's word from. -/
def gatherLanes (c : ℕ) : IVec S128x128 32 :=
  shapeCast S128x128 (shapeCast S128x128x1
    (select (cmpi .slt (addi k1_pay13 (broadcast S128x128 (BitVec.ofNat 32 (4 * c)))) (broadcast S128x128 0#32))
      (addi (addi k1_pay13 (broadcast S128x128 (BitVec.ofNat 32 (4 * c)))) (broadcast S128x128 128#32))
      (addi k1_pay13 (broadcast S128x128 (BitVec.ofNat 32 (4 * c))))) shapeCasts_S128x128_S128x128x1) shapeCasts_S128x128x1_S128x128

/-- The words chunk `c` reads. -/
def chunkWords (w : IVec S128x128 32) (c : ℕ) : IVec S128x128 32 := dynamicGather 1 w (gatherLanes c)

theorem slices_chunk (c : Fin 32) : S256x4096.Slices (![0, 128 * c.val]) S256x128 :=
  ⟨rfl, fun a => by fin_cases a <;> simp <;> omega⟩

/-- The codes of chunk `c`. -/
def chunkCodes (x : FVec Ideal S256x4096 .bf16) (w : IVec S128x128 32) (c : Fin 32) : FVec Ideal S256x128 .fp8e4m3 :=
  truncf .fp8e4m3 (minimumf (broadcast S256x128 (Scalar.truncf .bf16 bitsLt_bf16_f32 (Scalar.ofBits .f32 0x43E00000#32)))
    (maximumf (broadcast S256x128 (Scalar.truncf .bf16 bitsLt_bf16_f32 (Scalar.ofBits .f32 0xC3E00000#32)))
      (mulf (extractStridedSlice S256x128 ![0, 128 * c.val] x (slices_chunk c))
        (bitcastToFloat .bf16 (bitcast S256x128 16 (chunkWords w c.val) bitcasts_S128x128_w32_S256x128_w16))))) bitsLt_fp8e4m3_bf16

/-- The codes of chunk `c` times their scales. -/
def chunkValues (x : FVec Ideal S256x4096 .bf16) (w : IVec S128x128 32) (c : Fin 32) : FVec Ideal S256x128 .bf16 :=
  shapeCast S256x128 (mulf (extf .bf16 (chunkCodes x w c) bitsLt_fp8e4m3_bf16)
    (bitcastToFloat .bf16 (bitcast S256x128 16 (subi (broadcast S128x128 2130738944#32) (chunkWords w c.val))
      bitcasts_S128x128_w32_S256x128_w16))) shapeCasts_S256x128_S256x128

theorem chunkCodes_eq (x : FVec Ideal S256x4096 .bf16) (w : IVec S128x128 32) (c : Fin 32) (i : S256x128.Idx) (y : S256x4096.Idx)
    (h0 : (y 0).val = (i 0).val) (h1 : (y 1).val = 128 * c.val + (i 1).val) :
    chunkCodes x w c i = clip (x y * Ideal.ofBits .bf16 (bitcast S256x128 16 (chunkWords w c.val) bitcasts_S128x128_w32_S256x128_w16 i)) := by
  have hy : (extractStridedSlice S256x128 ![0, 128 * c.val] x (slices_chunk c)) i = x y := by
    unfold extractStridedSlice
    refine congrArg x (funext fun a => Fin.ext ?_)
    fin_cases a
    · simpa using h0.symm
    · simpa using h1.symm
  rw [← hy]
  exact clip_apply _ _ _ _

/-- The product with the scales at an index, at any codes and any words. -/
theorem mul_scale_apply {s : Shape} (a : FVec Ideal s .fp8e4m3) (w : IVec s 16) (i : s.Idx) :
    mulf (extf .bf16 a bitsLt_fp8e4m3_bf16) (bitcastToFloat .bf16 w) i = (a i * Ideal.ofBits .bf16 (w i) : EReal) := rfl

theorem chunkValues_eq (x : FVec Ideal S256x4096 .bf16) (w : IVec S128x128 32) (c : Fin 32) (i : S256x128.Idx) :
    chunkValues x w c i = (chunkCodes x w c i * Ideal.ofBits .bf16 (bitcast S256x128 16
      (subi (broadcast S128x128 2130738944#32) (chunkWords w c.val)) bitcasts_S128x128_w32_S256x128_w16 i) : EReal) := by
  unfold chunkValues
  rw [shapeCast_self]
  exact mul_scale_apply _ _ _

end Cert.KernelIdeal.Gen
end
-- ==== Proof.KernelWords.lean ====
/- The words the kernel keeps: the biased exponent of every group, the half words of the inverse scales, two rows in a
   word, and the lane a chunk gathers its word from. -/
module

public import proofs.«01_k».proof.Proof.KernelChunk
public import Idealize.ShloMosaic.Lib.BitcastPair

@[expose] public section

set_option maxRecDepth 16384

noncomputable section

namespace Cert.KernelIdeal.Gen

open Idealize.ShloMosaic Idealize.ShloMosaic.TcCoe Idealize.ShloMosaic.Tactic
open Cert.KernelIdeal Cert.Mxfp8

/-! ## The biased exponents -/

/-- One step of the search, on a whole block. -/
def stepVec (d : BitVec 32) (a : FVec Ideal S256x128 .f32) (w : IVec S256x128 32) : IVec S256x128 32 :=
  select (cmpf .ole (bitcastToFloat .f32 (shli (addi w (broadcast S256x128 d)) (broadcast S256x128 16#32))) a)
    (addi w (broadcast S256x128 d)) w

theorem stepVec_apply (d : BitVec 32) (a : FVec Ideal S256x128 .f32) (w : IVec S256x128 32) (i : S256x128.Idx) :
    stepVec d a w i = stepBit d (a i) (w i) := by
  change Scalar.select (BitVec.ofBool (decide (Ideal.ofBits .f32 ((w i + d) <<< 16) ≤ a i))) (w i + d) (w i) = _
  unfold stepBit Scalar.select
  by_cases h : Ideal.ofBits .f32 ((w i + d) <<< 16) ≤ a i
  · rw [if_pos h, decide_eq_true h, BitVec.ofBool_true]; exact if_pos rfl
  · rw [if_neg h, decide_eq_false h, BitVec.ofBool_false]; exact if_neg (by decide)

/-- The exponent from the search's word, on a whole block. -/
def finishVec (z : Ideal .f32) (a : FVec Ideal S256x128 .f32) (w : IVec S256x128 32) : IVec S256x128 32 :=
  select (cmpf .oeq a (broadcast S256x128 z)) (broadcast S256x128 127#32)
    (maxsi (subi (shrsi (addi w (broadcast S256x128 32#32)) (broadcast S256x128 7#32)) (broadcast S256x128 8#32))
      (broadcast S256x128 0#32))

theorem finishVec_apply (z : Ideal .f32) (a : FVec Ideal S256x128 .f32) (w : IVec S256x128 32) (i : S256x128.Idx) :
    finishVec z a w i = Scalar.select (Ideal.cmp .oeq (a i) z) 127#32
      (IntOp.maxsi (IntOp.subi (IntOp.shrsi .vector (IntOp.addi (w i) 32#32) 7#32) 8#32) 0#32) := rfl

theorem pay4_eq (x : Vec Ideal S256x4096 .bf16) :
    k1_pay4 x = stepVec 1024#32 (k1_pay3 x) (stepVec 2048#32 (k1_pay3 x) (stepVec 4096#32 (k1_pay3 x)
      (stepVec 8192#32 (k1_pay3 x) (stepVec 16384#32 (k1_pay3 x) (broadcast S256x128 0#32))))) := rfl

theorem pay5_eq (a : FVec Ideal S256x128 .f32) (w : IVec S256x128 32) :
    k1_pay5 a w 512#32 = stepVec 16#32 a (stepVec 32#32 a (stepVec 64#32 a (stepVec 128#32 a (stepVec 256#32 a
      (stepVec 512#32 a w))))) := rfl

theorem pay8_eq (a : FVec Ideal S256x128 .f32) (w : IVec S256x128 32) :
    k1_pay8 a (k1_pay5 a w 512#32) (k1_pay6 a w 512#32) (k1_pay7 a w 512#32)
      = finishVec (Scalar.ofBits .f32 0#32) a (stepVec 1#32 a (stepVec 2#32 a (stepVec 4#32 a (stepVec 8#32 a (k1_pay5 a w 512#32))))) := rfl

/-- The biased exponents of a block. -/
def biasedVec (x : Vec Ideal S256x4096 .bf16) : IVec S256x128 32 :=
  k1_pay8 (k1_pay3 x) (k1_pay5 (k1_pay3 x) (k1_pay4 x) 512#32) (k1_pay6 (k1_pay3 x) (k1_pay4 x) 512#32)
    (k1_pay7 (k1_pay3 x) (k1_pay4 x) 512#32)

theorem biasedVec_apply (x : Vec Ideal S256x4096 .bf16) (i : S256x128.Idx) : biasedVec x i = kernelBiased (k1_pay3 x i) := by
  unfold biasedVec
  rw [pay8_eq, pay5_eq, pay4_eq]
  generalize k1_pay3 x = a
  rw [finishVec_apply]
  simp only [stepVec_apply]
  rfl

/-! ## The words -/

theorem half_word (b : ℕ) (h1 : 1 ≤ b) (h2 : b ≤ 247) :
    IntOp.shrsi .vector (IntOp.shli .vector (IntOp.subi 254#32 (BitVec.ofNat 32 b)) 23#32) 16#32
      = BitVec.ofNat 32 ((254 - b) * 128) := by
  have h : ∀ b : Fin 248, 1 ≤ b.val → IntOp.shrsi .vector (IntOp.shli .vector (IntOp.subi 254#32 (BitVec.ofNat 32 b.val)) 23#32) 16#32
      = BitVec.ofNat 32 ((254 - b.val) * 128) := by decide +kernel
  exact h ⟨b, by omega⟩ h1

theorem pair_word (l h : ℕ) (hl : l < 65536) (hh : h < 65536) :
    IntOp.addi (BitVec.ofNat 32 l) (IntOp.shli .vector (BitVec.ofNat 32 h) 16#32) = BitVec.ofNat 32 (l + h * 65536) := by
  change BitVec.ofNat 32 l + (BitVec.ofNat 32 h) <<< 16 = _
  apply BitVec.eq_of_toNat_eq
  simp [BitVec.toNat_add, BitVec.toNat_shiftLeft, Nat.shiftLeft_eq]

theorem subi_eq {n : ℕ} (a b : BitVec n) : IntOp.subi a b = a - b := rfl

theorem sub_word (l h : ℕ) (hl : l ≤ 32512) (hh : h ≤ 32512) :
    IntOp.subi 2130738944#32 (BitVec.ofNat 32 (l + h * 65536)) = BitVec.ofNat 32 ((32512 - l) + (32512 - h) * 65536) := by
  have e : (2130738944 : ℕ) = ((32512 - l) + (32512 - h) * 65536) + (l + h * 65536) := by omega
  rw [subi_eq, e, BitVec.ofNat_add]
  exact BitVec.add_sub_cancel _ _

theorem extract_word (l h q : ℕ) (hl : l < 65536) (hh : h < 65536) (hq : q < 2) :
    (BitVec.ofNat 32 (l + h * 65536)).extractLsb' (16 * q) 16 = BitVec.ofNat 16 (if q = 0 then l else h) := by
  apply BitVec.eq_of_toNat_eq
  rw [BitVec.extractLsb'_toNat, BitVec.toNat_ofNat, BitVec.toNat_ofNat, Nat.shiftRight_eq_div_pow]
  obtain rfl | rfl : q = 0 ∨ q = 1 := by omega
  · simp <;> omega
  · simp <;> omega

/-- A word vector read as half words: row `r` is half `r % 2` of the words' row `r / 2`. -/
theorem halves_apply (v : IVec S128x128 32) (i : S256x128.Idx) :
    bitcast S256x128 16 v bitcasts_S128x128_w32_S256x128_w16 i
      = (v (ix2 (n0 := 128) (n1 := 128) ⟨(i 0).val / 2, by have : (i 0).val < 256 := (i 0).isLt; omega⟩ (i 1))).extractLsb' (16 * ((i 0).val % 2)) 16 := by
  rw [bitcast_32_16]
  have hr : S256x128.row i = (i 0).val := rfl
  have hi : ∀ hp, bitcasts_S128x128_w32_S256x128_w16.srcIdx i (S256x128.row i / 2) hp
      = (ix2 (n0 := 128) (n1 := 128) ⟨(i 0).val / 2, by have : (i 0).val < 256 := (i 0).isLt; omega⟩ (i 1)) := by
    intro hp
    funext a
    apply Fin.ext
    match a with
    | ⟨0, _⟩ => exact Shape.Bitcasts.srcIdx_row _ _ _ _ _ rfl
    | ⟨1, _⟩ => exact Shape.Bitcasts.srcIdx_other _ _ _ _ _ (show ¬ (1 + 2 = 2) by decide)
  rw [hi, hr]

/-! ## The lanes -/

theorem groupLane_eq (i : S128x128.Idx) : k1_pay13 i = BitVec.ofNat 32 ((i 1).val / 32) := by
  have h : ∀ a : Fin 128, k1_pay13 (ix2 (n0 := 128) (n1 := 128) 0 a) = BitVec.ofNat 32 (a.val / 32) := by decide +kernel
  exact h (i 1)

theorem lane_word : ∀ (c : Fin 32) (q : Fin 4), (Scalar.select (IntOp.cmpi .slt (IntOp.addi (BitVec.ofNat 32 q.val) (BitVec.ofNat 32 (4 * c.val))) 0#32)
    (IntOp.addi (IntOp.addi (BitVec.ofNat 32 q.val) (BitVec.ofNat 32 (4 * c.val))) 128#32)
    (IntOp.addi (BitVec.ofNat 32 q.val) (BitVec.ofNat 32 (4 * c.val)))).toNat = 4 * c.val + q.val := by decide +kernel

theorem gatherLanes_eq (c : Fin 32) (i : S128x128.Idx) : (gatherLanes c.val i).toNat = 4 * c.val + (i 1).val / 32 := by
  have h1 : (i 1).val < 128 := (i 1).isLt
  rw [← lane_word c ⟨(i 1).val / 32, by omega⟩]
  refine congrArg BitVec.toNat ?_
  have hg := groupLane_eq i
  simp only
  rw [← hg]
  unfold gatherLanes
  generalize k1_pay13 = p
  rw [show ∀ v : IVec S128x128 32, shapeCast S128x128 (shapeCast S128x128x1 v shapeCasts_S128x128_S128x128x1) shapeCasts_S128x128x1_S128x128 = v from fun v => by
    funext j; pointwise []]
  rfl

theorem chunkWords_apply (w : IVec S128x128 32) (c : Fin 32) (i : S128x128.Idx) :
    chunkWords w c.val i = w (ix2 (n0 := 128) (n1 := 128) (i 0)
      ⟨4 * c.val + (i 1).val / 32, by have h1 : (i 1).val < 128 := (i 1).isLt; have := c.isLt; omega⟩) := by
  have h1 : (i 1).val < 128 := (i 1).isLt
  have hc := c.isLt
  unfold chunkWords dynamicGather
  refine congrArg w (funext fun a => Fin.ext ?_)
  match a with
  | ⟨0, _⟩ => rfl
  | ⟨1, _⟩ =>
    change (gatherLanes c.val i).toNat % 128 = 4 * c.val + (i 1).val / 32
    rw [gatherLanes_eq, Nat.mod_eq_of_lt (by omega)]

end Cert.KernelIdeal.Gen

end
-- ==== Proof.KernelBlock.lean ====
/- What one grid step of the kernel's second call computes, at an index: codes, their products with the scales, and the
   scales, from a block of 256 tokens. -/
module

public import proofs.«01_k».proof.Proof.KernelWords

@[expose] public section

set_option maxRecDepth 16384

noncomputable section

namespace Cert.KernelIdeal.Gen

open Idealize.ShloMosaic Idealize.ShloMosaic.TcCoe Idealize.ShloMosaic.Tactic
open Cert.KernelIdeal Cert.Mxfp8

/-- The biased exponent of a group whose maximum is `a`, as a number. -/
def biasedNat (a : EReal) : ℕ := (kernelBiased a).toNat

theorem biasedNat_spec {a : EReal} (h : GoodMax a) : 1 ≤ biasedNat a ∧ biasedNat a ≤ 247
    ∧ kernelBiased a = BitVec.ofNat 32 (biasedNat a) ∧ refExponent a = BitVec.ofInt 32 ((biasedNat a : ℤ) - 127) := by
  obtain ⟨b, h1, h2, h3, h4⟩ := exponents h
  have hb : biasedNat a = b := by
    unfold biasedNat
    rw [h3, BitVec.toNat_ofNat, Nat.mod_eq_of_lt (by omega)]
  rw [hb]
  exact ⟨h1, h2, h3, h4⟩

/-- The words of a block's inverse scales. -/
def blockWords (x : Vec Ideal S256x4096 .bf16) : IVec S128x128 32 :=
  k1_pay12 (k1_pay10 (k1_pay3 x) (k1_pay5 (k1_pay3 x) (k1_pay4 x) 512#32) (k1_pay6 (k1_pay3 x) (k1_pay4 x) 512#32)
    (k1_pay7 (k1_pay3 x) (k1_pay4 x) 512#32)) k1_pay11

theorem pairs_apply (a b : IVec S256x128 32) (i : S128x128.Idx) :
    k1_pay12 a b i = IntOp.addi
      (IntOp.shrsi .vector (a (ix2 (n0 := 256) (n1 := 128) ⟨(i 0).val * 2, by have : (i 0).val < 128 := (i 0).isLt; omega⟩ (i 1)))
        (b (ix2 (n0 := 256) (n1 := 128) ⟨(i 0).val * 2, by have : (i 0).val < 128 := (i 0).isLt; omega⟩ (i 1))))
      (IntOp.shli .vector (IntOp.shrsi .vector (a (ix2 (n0 := 256) (n1 := 128) ⟨(i 0).val * 2 + 1, by have : (i 0).val < 128 := (i 0).isLt; omega⟩ (i 1)))
        (b (ix2 (n0 := 256) (n1 := 128) ⟨(i 0).val * 2 + 1, by have : (i 0).val < 128 := (i 0).isLt; omega⟩ (i 1)))) 16#32) := by
  pointwise [k1_pay12]

theorem invWord_apply (x : Vec Ideal S256x4096 .bf16) (i : S256x128.Idx) :
    k1_pay10 (k1_pay3 x) (k1_pay5 (k1_pay3 x) (k1_pay4 x) 512#32) (k1_pay6 (k1_pay3 x) (k1_pay4 x) 512#32)
      (k1_pay7 (k1_pay3 x) (k1_pay4 x) 512#32) i = IntOp.shli .vector (IntOp.subi 254#32 (biasedVec x i)) 23#32 := rfl

/-- The half word of a group: the bits of its inverse scale. -/
def halfOf (x : Vec Ideal S256x4096 .bf16) (i : S256x128.Idx) : ℕ := (254 - biasedNat (k1_pay3 x i)) * 128

theorem halfWord_apply (x : Vec Ideal S256x4096 .bf16) (hx : ∀ i, GoodMax (k1_pay3 x i)) (i : S256x128.Idx) :
    IntOp.shrsi .vector (k1_pay10 (k1_pay3 x) (k1_pay5 (k1_pay3 x) (k1_pay4 x) 512#32) (k1_pay6 (k1_pay3 x) (k1_pay4 x) 512#32)
      (k1_pay7 (k1_pay3 x) (k1_pay4 x) 512#32) i) (k1_pay11 i) = BitVec.ofNat 32 (halfOf x i) := by
  obtain ⟨h1, h2, h3, -⟩ := biasedNat_spec (hx i)
  rw [invWord_apply, biasedVec_apply, h3]
  exact half_word _ h1 h2

theorem halfOf_le (x : Vec Ideal S256x4096 .bf16) (i : S256x128.Idx) : halfOf x i ≤ 32512 := by
  unfold halfOf; omega

theorem blockWords_apply (x : Vec Ideal S256x4096 .bf16) (hx : ∀ i, GoodMax (k1_pay3 x i)) (i : S128x128.Idx) :
    blockWords x i = BitVec.ofNat 32
      (halfOf x (ix2 (n0 := 256) (n1 := 128) ⟨(i 0).val * 2, by have : (i 0).val < 128 := (i 0).isLt; omega⟩ (i 1))
        + halfOf x (ix2 (n0 := 256) (n1 := 128) ⟨(i 0).val * 2 + 1, by have : (i 0).val < 128 := (i 0).isLt; omega⟩ (i 1)) * 65536) := by
  unfold blockWords
  rw [pairs_apply, halfWord_apply x hx, halfWord_apply x hx]
  exact pair_word _ _ (by have := halfOf_le x (ix2 (n0 := 256) (n1 := 128) ⟨(i 0).val * 2, by have : (i 0).val < 128 := (i 0).isLt; omega⟩ (i 1)); omega)
    (by have := halfOf_le x (ix2 (n0 := 256) (n1 := 128) ⟨(i 0).val * 2 + 1, by have : (i 0).val < 128 := (i 0).isLt; omega⟩ (i 1)); omega)

/-- The group of chunk `c` that lane `i 1` belongs to. -/
def groupOf (c : Fin 32) (i : S256x128.Idx) : S256x128.Idx :=
  ix2 (n0 := 256) (n1 := 128) (i 0) ⟨4 * c.val + (i 1).val / 32, by have h1 : (i 1).val < 128 := (i 1).isLt; have := c.isLt; omega⟩

theorem choose_row (x : Vec Ideal S256x4096 .bf16) (c : Fin 32) (i : S256x128.Idx) (f : ℕ → ℕ) (p0 : (i 0).val / 2 * 2 < 256)
    (p1 : (i 0).val / 2 * 2 + 1 < 256) (q : 4 * c.val + (i 1).val / 32 < 128) :
    (if (i 0).val % 2 = 0 then f (halfOf x (ix2 (n0 := 256) (n1 := 128) ⟨(i 0).val / 2 * 2, p0⟩ ⟨4 * c.val + (i 1).val / 32, q⟩))
      else f (halfOf x (ix2 (n0 := 256) (n1 := 128) ⟨(i 0).val / 2 * 2 + 1, p1⟩ ⟨4 * c.val + (i 1).val / 32, q⟩))) = f (halfOf x (groupOf c i)) := by
  unfold groupOf
  split
  · refine congrArg f (congrArg (halfOf x) ?_)
    exact congrArg (fun r => ix2 (n0 := 256) (n1 := 128) r _) (Fin.ext (by show (i 0).val / 2 * 2 = (i 0).val; omega))
  · refine congrArg f (congrArg (halfOf x) ?_)
    exact congrArg (fun r => ix2 (n0 := 256) (n1 := 128) r _) (Fin.ext (by show (i 0).val / 2 * 2 + 1 = (i 0).val; omega))

theorem inverse_half (x : Vec Ideal S256x4096 .bf16) (hx : ∀ i, GoodMax (k1_pay3 x i)) (c : Fin 32) (i : S256x128.Idx) :
    bitcast S256x128 16 (chunkWords (blockWords x) c.val) bitcasts_S128x128_w32_S256x128_w16 i
      = BitVec.ofNat 16 (halfOf x (groupOf c i)) := by
  rw [halves_apply, chunkWords_apply, blockWords_apply x hx, extract_word _ _ _ (lt_of_le_of_lt (halfOf_le _ _) (by norm_num))
    (lt_of_le_of_lt (halfOf_le _ _) (by norm_num)) (Nat.mod_lt _ (by norm_num))]
  exact congrArg (BitVec.ofNat 16) (choose_row x c i (fun n => n) _ _ _)

theorem scale_half (x : Vec Ideal S256x4096 .bf16) (hx : ∀ i, GoodMax (k1_pay3 x i)) (c : Fin 32) (i : S256x128.Idx) :
    bitcast S256x128 16 (subi (broadcast S128x128 2130738944#32) (chunkWords (blockWords x) c.val)) bitcasts_S128x128_w32_S256x128_w16 i
      = BitVec.ofNat 16 (32512 - halfOf x (groupOf c i)) := by
  have hs : ∀ (v : IVec S128x128 32) (j : S128x128.Idx), subi (broadcast S128x128 2130738944#32) v j = IntOp.subi 2130738944#32 (v j) :=
    fun _ _ => rfl
  rw [halves_apply, hs, chunkWords_apply, blockWords_apply x hx, sub_word _ _ (halfOf_le _ _) (halfOf_le _ _),
    extract_word _ _ _ (lt_of_le_of_lt (Nat.sub_le _ _) (by norm_num))
    (lt_of_le_of_lt (Nat.sub_le _ _) (by norm_num)) (Nat.mod_lt _ (by norm_num))]
  exact congrArg (BitVec.ofNat 16) (choose_row x c i (fun n => 32512 - n) _ _ _)

/-- A power of two as an extended real. -/
def pow2 (z : ℤ) : EReal := (((2 : ℝ) ^ z : ℝ) : EReal)

/-- The group of a column. -/
def colGroup (y : S256x4096.Idx) : S256x128.Idx :=
  ix2 (n0 := 256) (n1 := 128) (y 0) ⟨(y 1).val / 32, by have h1 : (y 1).val < 4096 := (y 1).isLt; omega⟩

/-- The code of an entry of a block. -/
def codeAt (x : Vec Ideal S256x4096 .bf16) (y : S256x4096.Idx) : EReal :=
  clip (x y * pow2 (127 - (biasedNat (k1_pay3 x (colGroup y)) : ℤ)))

/-- The code of an entry of a block times its scale. -/
def valueAt (x : Vec Ideal S256x4096 .bf16) (y : S256x4096.Idx) : EReal :=
  codeAt x y * pow2 ((biasedNat (k1_pay3 x (colGroup y)) : ℤ) - 127)

theorem groupOf_eq (c : Fin 32) (i : S256x128.Idx) (y : S256x4096.Idx)
    (h0 : (y 0).val = (i 0).val) (h1 : (y 1).val = 128 * c.val + (i 1).val) : groupOf c i = colGroup y := by
  unfold groupOf colGroup
  funext a
  match a with
  | ⟨0, _⟩ => exact Fin.ext h0.symm
  | ⟨1, _⟩ => exact Fin.ext (show 4 * c.val + (i 1).val / 32 = (y 1).val / 32 by rw [h1]; omega)

theorem inverse_value (x : Vec Ideal S256x4096 .bf16) (hx : ∀ i, GoodMax (k1_pay3 x i)) (i : S256x128.Idx) :
    Ideal.ofBits .bf16 (BitVec.ofNat 16 (halfOf x i)) = pow2 (127 - (biasedNat (k1_pay3 x i) : ℤ)) := by
  obtain ⟨h1, h2, -, -⟩ := biasedNat_spec (hx i)
  unfold halfOf pow2
  rw [ofBits_bf16_pow _ (by omega) (by omega)]
  refine congrArg (fun z : ℤ => (((2 : ℝ) ^ z : ℝ) : EReal)) ?_
  omega

theorem scale_value (x : Vec Ideal S256x4096 .bf16) (hx : ∀ i, GoodMax (k1_pay3 x i)) (i : S256x128.Idx) :
    Ideal.ofBits .bf16 (BitVec.ofNat 16 (32512 - halfOf x i)) = pow2 ((biasedNat (k1_pay3 x i) : ℤ) - 127) := by
  obtain ⟨h1, h2, -, -⟩ := biasedNat_spec (hx i)
  have e : 32512 - halfOf x i = biasedNat (k1_pay3 x i) * 128 := by unfold halfOf; omega
  unfold pow2
  rw [e, ofBits_bf16_pow _ (by omega) (by omega)]

/-- The codes a chunk stores. -/
theorem chunkCodes_block (x : Vec Ideal S256x4096 .bf16) (hx : ∀ i, GoodMax (k1_pay3 x i)) (c : Fin 32) (i : S256x128.Idx)
    (y : S256x4096.Idx) (h0 : (y 0).val = (i 0).val) (h1 : (y 1).val = 128 * c.val + (i 1).val) :
    chunkCodes x (blockWords x) c i = codeAt x y := by
  rw [chunkCodes_eq x _ c i y h0 h1, inverse_half x hx, groupOf_eq c i y h0 h1, inverse_value x hx]
  rfl

/-- The products a chunk stores. -/
theorem chunkValues_block (x : Vec Ideal S256x4096 .bf16) (hx : ∀ i, GoodMax (k1_pay3 x i)) (c : Fin 32) (i : S256x128.Idx)
    (y : S256x4096.Idx) (h0 : (y 0).val = (i 0).val) (h1 : (y 1).val = 128 * c.val + (i 1).val) :
    chunkValues x (blockWords x) c i = valueAt x y := by
  rw [chunkValues_eq, chunkCodes_block x hx c i y h0 h1, scale_half x hx, groupOf_eq c i y h0 h1, scale_value x hx]
  rfl

/-- The scales a block stores. -/
theorem scales_block (x : Vec Ideal S256x4096 .bf16) (hx : ∀ i, GoodMax (k1_pay3 x i)) (i : S256x128.Idx) :
    k1_pay9 (k1_pay3 x) (k1_pay5 (k1_pay3 x) (k1_pay4 x) 512#32) (k1_pay6 (k1_pay3 x) (k1_pay4 x) 512#32)
      (k1_pay7 (k1_pay3 x) (k1_pay4 x) 512#32) i = BitVec.ofNat 8 (biasedNat (k1_pay3 x i)) := by
  obtain ⟨h1, h2, h3, -⟩ := biasedNat_spec (hx i)
  have h : k1_pay9 (k1_pay3 x) (k1_pay5 (k1_pay3 x) (k1_pay4 x) 512#32) (k1_pay6 (k1_pay3 x) (k1_pay4 x) 512#32)
      (k1_pay7 (k1_pay3 x) (k1_pay4 x) 512#32) i = BitVec.setWidth 8 (biasedVec x i) := rfl
  rw [h, biasedVec_apply, h3]
  apply BitVec.eq_of_toNat_eq
  rw [BitVec.toNat_setWidth, BitVec.toNat_ofNat, BitVec.toNat_ofNat]
  omega

end Cert.KernelIdeal.Gen

end
-- ==== Proof.KernelStep.lean ====
/- What one grid step of the kernel's second call leaves in its three output buffers. -/
module

public import proofs.«01_k».proof.Proof.KernelBlock

@[expose] public section

set_option maxRecDepth 16384

noncomputable section

namespace Cert.KernelIdeal.Gen

open Idealize.ShloMosaic Idealize.ShloMosaic.TcCoe Idealize.ShloMosaic.Tactic
open Cert.KernelIdeal Cert.Mxfp8

variable (V : (c : Dev nD) → (b : Ref sig .tc) → Buf (Elt Ideal) ((c : Thread nD τ).loc b))

/-- The block of tokens of a grid step. -/
abbrev blockX (c : Dev nD) (t : Fin cfg1.N) : Vec Ideal S256x4096 .bf16 := iblk1 V c 0 t

theorem pay2_eq (x : Vec Ideal S256x4096 .bf16) : k1_pay2 x = x := by
  unfold k1_pay2; exact shapeCast_self _ _

/-- The codes of the chunk at column `o`. -/
theorem codes_at (x : Vec Ideal S256x4096 .bf16) (hx : ∀ i, GoodMax (k1_pay3 x i)) (o : ℕ) (i : S256x128.Idx) (y : S256x4096.Idx)
    (h0 : (y 0).val = (i 0).val) (h1 : (y 1).val = o + (i 1).val) (ho : o / 128 < 32) (hd : 128 * (o / 128) = o) :
    chunkCodes x (blockWords x) ⟨o / 128, ho⟩ i = codeAt x y :=
  chunkCodes_block x hx _ i y h0 (by rw [h1]; exact congrArg (· + (i 1).val) hd.symm)

/-- The products of the chunk at column `o`. -/
theorem values_at (x : Vec Ideal S256x4096 .bf16) (hx : ∀ i, GoodMax (k1_pay3 x i)) (o : ℕ) (i : S256x128.Idx) (y : S256x4096.Idx)
    (h0 : (y 0).val = (i 0).val) (h1 : (y 1).val = o + (i 1).val) (ho : o / 128 < 32) (hd : 128 * (o / 128) = o) :
    chunkValues x (blockWords x) ⟨o / 128, ho⟩ i = valueAt x y :=
  chunkValues_block x hx _ i y h0 (by rw [h1]; exact congrArg (· + (i 1).val) hd.symm)

theorem step_codes (c : Dev nD) (t : Fin cfg1.N) (hx : ∀ i, GoodMax (k1_pay3 (blockX V c t) i)) (y : S256x4096.Idx) :
    (outsAt1 V c t).2.1 y = codeAt (blockX V c t) y := by
  unfold outsAt1
  frame_out
  simp only [pay2_eq]
  canon_tiles i h
  case piece31 => exact chunkCodes_block (blockX V c t) hx 0 i y h0 (by first | exact h1 | omega)
  all_goals
    have key := codes_at (blockX V c t) hx _ i y h0 h1 (by decide) (by decide)
    exact key

theorem step_scales (c : Dev nD) (t : Fin cfg1.N) (hx : ∀ i, GoodMax (k1_pay3 (blockX V c t) i)) (y : S256x128.Idx) :
    (outsAt1 V c t).2.2 y = BitVec.ofNat 8 (biasedNat (k1_pay3 (blockX V c t) y)) := by
  unfold outsAt1
  frame_out
  exact scales_block _ hx y

theorem matmul_apply (v : Vec Ideal S256x4096 .bf16) (w : Vec Ideal S4096x4608 .bf16) (b : Vec Ideal S1x4608 .f32) (i : S256x4608.Idx) :
    k1_pay1 v w b i = ((∑ k : Fin 4096, v (ix2 (n0 := 256) (n1 := 4096) (i 0) k) * w (ix2 (n0 := 4096) (n1 := 4608) k (i 1)))
      + b (ix2 (n0 := 1) (n1 := 4608) 0 (i 1)) : EReal) := by
  pointwise [k1_pay1]

theorem step_y (c : Dev nD) (t : Fin cfg1.N) (hx : ∀ i, GoodMax (k1_pay3 (blockX V c t) i)) :
    (outsAt1 V c t).1 = k1_pay1 (valueAt (blockX V c t)) (iblk1 V c 1 t) (iblk1 V c 2 t) := by
  unfold outsAt1
  frame_out
  simp only [pay2_eq]
  refine congrArg (fun v => k1_pay1 v (iblk1 V c 1 t) (iblk1 V c 2 t)) ?_
  rw [View.readCov_eq_canon']
  funext y
  refine (congrArg _ (?_ : _ = y)).trans ?_
  · funext a
    apply Fin.ext
    match a with
    | ⟨0, _⟩ => show 0 + 1 * (y 0).val = (y 0).val; omega
    | ⟨1, _⟩ => show 0 + 1 * (y 1).val = (y 1).val; omega
  canon_tiles i h
  case piece31 => exact chunkValues_block (blockX V c t) hx 0 i y h0 (by first | exact h1 | omega)
  all_goals
    have key := values_at (blockX V c t) hx _ i y h0 h1 (by decide) (by decide)
    exact key

end Cert.KernelIdeal.Gen

end
-- ==== Proof.Spec.lean ====
/- The layer as mathematics, over functions of plain coordinates: the maximum of a group, the biased exponent, the codes,
   the product as the kernel sums it and as the reference sums it, and that the two sums are equal. -/
module

public import proofs.«01_k».proof.Proof.KernelStep
public import Mathlib.Data.EReal.Operations

@[expose] public section

set_option maxRecDepth 16384

noncomputable section

open scoped BigOperators

namespace Cert.Mxfp8

open Idealize.ShloMosaic Cert.KernelIdeal.Gen

/-- The column of entry `t` of group `g`. -/
def col (g : Fin 128) (t : Fin 32) : Fin 4096 := ⟨g.val * 32 + t.val, by omega⟩

/-- The group of a column. -/
def grp (k : Fin 4096) : Fin 128 := ⟨k.val / 32, by omega⟩

theorem grp_col (g : Fin 128) (t : Fin 32) : grp (col g t) = g := Fin.ext (by show (g.val * 32 + t.val) / 32 = g.val; omega)

/-- The largest magnitude in a group. -/
def groupMax (x : Fin 16384 → Fin 4096 → EReal) (r : Fin 16384) (g : Fin 128) : EReal :=
  Finset.univ.fold max (⊥ : EReal) fun t : Fin 32 => max (x r (col g t)) (-x r (col g t))

/-- The biased exponent of a group. -/
def expOf (x : Fin 16384 → Fin 4096 → EReal) (r : Fin 16384) (g : Fin 128) : ℕ := biasedNat (groupMax x r g)

/-- The code of an entry. -/
def codeOf (x : Fin 16384 → Fin 4096 → EReal) (r : Fin 16384) (k : Fin 4096) : EReal :=
  clip (x r k * pow2 (127 - (expOf x r (grp k) : ℤ)))

/-- The layer, summed as the kernel sums it. -/
def kernelY (x : Fin 16384 → Fin 4096 → EReal) (w : Fin 4096 → Fin 4608 → EReal) (s : Fin 128 → Fin 4608 → ℤ)
    (b : Fin 4608 → EReal) (r : Fin 16384) (n : Fin 4608) : EReal :=
  (∑ k : Fin 4096, (codeOf x r k * pow2 ((expOf x r (grp k) : ℤ) - 127)) * (w k n * pow2 (s (grp k) n - 127))) + b n

/-- The layer, summed as the reference sums it. -/
def referenceY (x : Fin 16384 → Fin 4096 → EReal) (w : Fin 4096 → Fin 4608 → EReal) (s : Fin 128 → Fin 4608 → ℤ)
    (b : Fin 4608 → EReal) (r : Fin 16384) (n : Fin 4608) : EReal :=
  (∑ g : Fin 128, (∑ t : Fin 32, codeOf x r (col g t) * w (col g t) n) * pow2 ((expOf x r g : ℤ) - 127) * pow2 (s g n - 127)) + b n

theorem pow2_nonneg (z : ℤ) : 0 ≤ pow2 z := EReal.coe_nonneg.mpr (zpow_nonneg (by norm_num) z)

theorem pow2_ne_top (z : ℤ) : pow2 z ≠ ⊤ := EReal.coe_ne_top _

/-- A finite nonnegative factor moves out of a sum. -/
theorem sum_mul_of_nonneg {ι : Type} (S : Finset ι) (f : ι → EReal) {p : EReal} (h0 : 0 ≤ p) (ht : p ≠ ⊤) :
    ∑ i ∈ S, f i * p = (∑ i ∈ S, f i) * p := by
  classical
  induction S using Finset.induction_on with
  | empty => simp
  | insert a S ha ih => rw [Finset.sum_insert ha, Finset.sum_insert ha, ih, EReal.right_distrib_of_nonneg_of_ne_top h0 ht]

/-- A sum over the columns, group by group. -/
theorem sum_columns (f : Fin 4096 → EReal) : ∑ k : Fin 4096, f k = ∑ g : Fin 128, ∑ t : Fin 32, f (col g t) := by
  rw [← Fintype.sum_prod_type' (f := fun (g : Fin 128) (t : Fin 32) => f (col g t))]
  refine (Fintype.sum_equiv (finProdFinEquiv (m := 128) (n := 32)) _ _ fun p => ?_).symm
  refine congrArg f (Fin.ext ?_)
  show p.1.val * 32 + p.2.val = p.2.val + 32 * p.1.val
  omega

/-- The two ways of summing the layer agree. -/
theorem kernelY_eq (x : Fin 16384 → Fin 4096 → EReal) (w : Fin 4096 → Fin 4608 → EReal) (s : Fin 128 → Fin 4608 → ℤ)
    (b : Fin 4608 → EReal) (r : Fin 16384) (n : Fin 4608) : kernelY x w s b r n = referenceY x w s b r n := by
  unfold kernelY referenceY
  rw [sum_columns]
  refine congrArg (· + b n) (Finset.sum_congr rfl fun g _ => ?_)
  rw [← sum_mul_of_nonneg _ _ (pow2_nonneg _) (pow2_ne_top _), ← sum_mul_of_nonneg _ _ (pow2_nonneg _) (pow2_ne_top _)]
  refine Finset.sum_congr rfl fun t _ => ?_
  rw [grp_col, mul_mul_mul_comm, mul_assoc (codeOf x r (col g t) * w (col g t) n)]

theorem ofBits_bottom : Ideal.ofBits .f32 4286578688#32 = ⊥ := by
  simp [Ideal.ofBits, Ideal.ieee]

theorem ofBits_bottom_bf16 : Ideal.ofBits .bf16 65408#16 = ⊥ := by
  simp [Ideal.ofBits, Ideal.ieee]

/-- The reference's powers of two. -/
theorem exp2_int (z : ℤ) : Ideal.exp2 (((z : ℝ)) : EReal) = pow2 z := by
  rw [Ideal.exp2_coe]
  unfold pow2
  exact congrArg _ (Real.rpow_intCast 2 z)

/-- A weight's scale, as the kernel decodes it. -/
theorem scale_word (s : BitVec 8) (h1 : 1 ≤ s.toNat) (h2 : s.toNat ≤ 254) :
    Ideal.ofBits .f32 (IntOp.shli .vector (BitVec.setWidth 32 s) 23#32) = pow2 ((s.toNat : ℤ) - 127) := by
  have e : IntOp.shli .vector (BitVec.setWidth 32 s) 23#32 = BitVec.ofNat 32 (s.toNat * 8388608) := by
    change (BitVec.setWidth 32 s) <<< 23 = _
    apply BitVec.eq_of_toNat_eq
    simp [BitVec.toNat_shiftLeft, Nat.shiftLeft_eq]
  rw [e, ofBits_f32_pow _ h1 h2]
  rfl

/-- A weight's scale, as the reference decodes it. -/
theorem scale_exp2 (s : BitVec 8) :
    Ideal.exp2 (((IntOp.subi (BitVec.setWidth 32 s) 127#32).toInt : ℝ) : EReal) = pow2 ((s.toNat : ℤ) - 127) := by
  have h : ∀ s : BitVec 8, (IntOp.subi (BitVec.setWidth 32 s) 127#32).toInt = (s.toNat : ℤ) - 127 := by decide +kernel
  rw [h, exp2_int]

/-- A group's scale, as the reference computes it. -/
theorem exponent_exp2 (b : ℕ) (h1 : 1 ≤ b) (h2 : b ≤ 247) :
    Ideal.exp2 (((BitVec.ofInt 32 ((b : ℤ) - 127)).toInt : ℝ) : EReal) = pow2 ((b : ℤ) - 127) := by
  have h : ∀ b : Fin 248, (BitVec.ofInt 32 ((b.val : ℤ) - 127)).toInt = (b.val : ℤ) - 127 := by decide +kernel
  rw [h ⟨b, by omega⟩, exp2_int]

theorem exponent_neg_exp2 (b : ℕ) (h1 : 1 ≤ b) (h2 : b ≤ 247) :
    Ideal.exp2 (((IntOp.subi 0#32 (BitVec.ofInt 32 ((b : ℤ) - 127))).toInt : ℝ) : EReal) = pow2 (127 - (b : ℤ)) := by
  have h : ∀ b : Fin 248, (IntOp.subi 0#32 (BitVec.ofInt 32 ((b.val : ℤ) - 127))).toInt = 127 - (b.val : ℤ) := by decide +kernel
  rw [h ⟨b, by omega⟩, exp2_int]

theorem exponent_word (b : ℕ) (h1 : 1 ≤ b) (h2 : b ≤ 247) :
    BitVec.setWidth 8 (IntOp.addi (BitVec.ofInt 32 ((b : ℤ) - 127)) 127#32) = BitVec.ofNat 8 b := by
  have h : ∀ b : Fin 248, BitVec.setWidth 8 (IntOp.addi (BitVec.ofInt 32 ((b.val : ℤ) - 127)) 127#32) = BitVec.ofNat 8 b.val := by decide +kernel
  exact h ⟨b, by omega⟩

end Cert.Mxfp8

end
-- ==== Proof.KernelArrays.lean ====
/- The kernel's arrays when its two calls have run: the decoded weights, and the three results. -/
module

public import proofs.«01_k».proof.Proof.Spec

@[expose] public section

set_option maxRecDepth 16384

noncomputable section

namespace Cert.KernelIdeal.Gen

open Idealize.ShloMosaic Idealize.ShloMosaic.TcCoe Idealize.ShloMosaic.Tactic
open Cert.KernelIdeal Cert.Mxfp8

variable (V : (c : Dev nD) → (b : Ref sig .tc) → Buf (Elt Ideal) ((c : Thread nD τ).loc b))

/-! ## The decoded weights -/

theorem index0 : ∀ t : Fin cfg0.N, win0_0.index t 0 = t.val ∧ win0_0.index t 1 = 0 ∧ win0_1.index t 0 = t.val ∧ win0_1.index t 1 = 0
    ∧ win0_2.index t 0 = t.val ∧ win0_2.index t 1 = 0 := by decide +kernel

theorem decode_apply (s : Vec Ideal S16x4608 .i8) (w : Vec Ideal S512x4608 .fp8e4m3) (i : S512x4608.Idx) :
    k0_pay1 s w i = (w i * Ideal.ofBits .f32 (IntOp.shli .vector (BitVec.setWidth 32 (s (ix2 (n0 := 16) (n1 := 4608)
    ⟨(i 0).val / 32, by have : (i 0).val < 512 := (i 0).isLt; omega⟩ (i 1)))) 23#32) : EReal) := by
  pointwise [k0_pay1]

/-- The decoded weights. -/
def weightAt (w : Vec Ideal S4096x4608 .fp8e4m3) (s : Vec Ideal S128x4608 .i8) (y : S4096x4608.Idx) : EReal :=
  w y * Ideal.ofBits .f32 (IntOp.shli .vector (BitVec.setWidth 32 (s (ix2 (n0 := 128) (n1 := 4608)
    ⟨(y 0).val / 32, by have : (y 0).val < 4096 := (y 0).isLt; omega⟩ (y 1)))) 23#32)

theorem weights_array (c : Dev nD) : (dat0 V c).arrAt 2 cfg0.N = weightAt (V c main_arg1) (V c main_arg2) := by
  refine (dat0 V c).arrAt_eq_of_covers 2 _ (by decide +kernel) fun t hf y => ?_
  blk_simp
  rw [after0_2]
  frame_out
  rw [decode_apply]
  unfold weightAt
  blk_point [iblk0, index0 t]

/-! ## The blocks of the second call -/

theorem index1 : ∀ t : Fin cfg1.N, win1_0.index t 0 = t.val ∧ win1_0.index t 1 = 0 ∧ win1_1.index t 0 = 0 ∧ win1_1.index t 1 = 0
    ∧ win1_2.index t 0 = 0 ∧ win1_2.index t 1 = 0 ∧ win1_3.index t 0 = t.val ∧ win1_3.index t 1 = 0
    ∧ win1_4.index t 0 = t.val ∧ win1_4.index t 1 = 0 ∧ win1_5.index t 0 = t.val ∧ win1_5.index t 1 = 0 := by decide +kernel

/-- The token of row `r` of grid step `t`. -/
def token (t : Fin cfg1.N) (r : Fin 256) : Fin 16384 :=
  ⟨t.val * 256 + r.val, by have := t.isLt; have : cfg1.N = 64 := rfl; omega⟩

/-- The tokens as the second call reads them. -/
def tokens (c : Dev nD) (r : Fin 16384) (k : Fin 4096) : EReal := V c main_v1 (ix2 (n0 := 16384) (n1 := 4096) r k)

theorem blockX_apply (c : Dev nD) (t : Fin cfg1.N) (y : S256x4096.Idx) : blockX V c t y = tokens V c (token t (y 0)) (y 1) := by
  unfold blockX tokens token
  blk_ext [iblk1, index1 t]

theorem blockW_apply (c : Dev nD) (t : Fin cfg1.N) : iblk1 V c 1 t = V c main_v0 := by
  funext y
  blk_ext [iblk1, index1 t]

theorem blockB_apply (c : Dev nD) (t : Fin cfg1.N) : iblk1 V c 2 t = V c main_v2 := by
  funext y
  blk_ext [iblk1, index1 t]

theorem emb3 (t : Fin cfg1.N) (y : S256x4608.Idx) :
    (win1_3.blk t).view.emb y = ix2 (n0 := 16384) (n1 := 4608) (token t (y 0)) (y 1) := by
  funext a
  apply Fin.ext
  match a with
  | ⟨0, _⟩ =>
    show win1_3.index t 0 * 256 + 1 * (y 0).val = t.val * 256 + (y 0).val
    rw [(index1 t).2.2.2.2.2.2.1]; omega
  | ⟨1, _⟩ =>
    show win1_3.index t 1 * 4608 + 1 * (y 1).val = (y 1).val
    rw [(index1 t).2.2.2.2.2.2.2.1]; omega

theorem emb4 (t : Fin cfg1.N) (y : S256x4096.Idx) :
    (win1_4.blk t).view.emb y = ix2 (n0 := 16384) (n1 := 4096) (token t (y 0)) (y 1) := by
  funext a
  apply Fin.ext
  match a with
  | ⟨0, _⟩ =>
    show win1_4.index t 0 * 256 + 1 * (y 0).val = t.val * 256 + (y 0).val
    rw [(index1 t).2.2.2.2.2.2.2.2.1]; omega
  | ⟨1, _⟩ =>
    show win1_4.index t 1 * 4096 + 1 * (y 1).val = (y 1).val
    rw [(index1 t).2.2.2.2.2.2.2.2.2.1]; omega

theorem emb5 (t : Fin cfg1.N) (y : S256x128.Idx) :
    (win1_5.blk t).view.emb y = ix2 (n0 := 16384) (n1 := 128) (token t (y 0)) (y 1) := by
  funext a
  apply Fin.ext
  match a with
  | ⟨0, _⟩ =>
    show win1_5.index t 0 * 256 + 1 * (y 0).val = t.val * 256 + (y 0).val
    rw [(index1 t).2.2.2.2.2.2.2.2.2.2.1]; omega
  | ⟨1, _⟩ =>
    show win1_5.index t 1 * 128 + 1 * (y 1).val = (y 1).val
    rw [(index1 t).2.2.2.2.2.2.2.2.2.2.2]; omega

theorem blockMax_apply (x : Vec Ideal S256x4096 .bf16) (i : S256x128.Idx) : k1_pay3 x i
    = Finset.fold max (Ideal.ofBits FTy.bf16 65408#16) (fun t : Fin 32 => FloatOps.absf (x (ix2 (n0 := 256) (n1 := 4096) (i 0)
      ⟨(i 1).val * 32 + t.val, by have : (i 1).val < 128 := (i 1).isLt; have := t.isLt; omega⟩))) Finset.univ := by
  pointwise [k1_pay3, k1_pay2]

theorem blockMax (c : Dev nD) (t : Fin cfg1.N) (i : S256x128.Idx) :
    k1_pay3 (blockX V c t) i = groupMax (tokens V c) (token t (i 0)) (i 1) := by
  rw [blockMax_apply, ofBits_bottom_bf16]
  unfold groupMax
  refine congrArg (fun f => Finset.fold max (⊥ : EReal) f Finset.univ) (funext fun k => ?_)
  rw [blockX_apply]
  rfl

/-! ## The three results -/

theorem code_block (c : Dev nD) (t : Fin cfg1.N) (y : S256x4096.Idx) :
    codeAt (blockX V c t) y = codeOf (tokens V c) (token t (y 0)) (y 1) := by
  unfold codeAt codeOf expOf
  rw [blockMax, blockX_apply]
  rfl

theorem codes_array (c : Dev nD) (hx : ∀ r g, GoodMax (groupMax (tokens V c) r g)) :
    (dat1 V c).arrAt 4 cfg1.N = fun i : S16384x4096.Idx => codeOf (tokens V c) (i 0) (i 1) := by
  refine (dat1 V c).arrAt_eq_of_covers 4 _ (by decide +kernel) fun t hf y => ?_
  blk_simp
  rw [after1_4, step_codes V c t (fun i => by rw [blockMax]; exact hx _ _), code_block, emb4]
  rfl

theorem scales_array (c : Dev nD) (hx : ∀ r g, GoodMax (groupMax (tokens V c) r g)) :
    (dat1 V c).arrAt 5 cfg1.N = fun i : S16384x128.Idx => BitVec.ofNat 8 (expOf (tokens V c) (i 0) (i 1)) := by
  refine (dat1 V c).arrAt_eq_of_covers 5 _ (by decide +kernel) fun t hf y => ?_
  blk_simp
  rw [after1_5, step_scales V c t (fun i => by rw [blockMax]; exact hx _ _), blockMax, emb5]
  rfl

theorem y_array (c : Dev nD) (hx : ∀ r g, GoodMax (groupMax (tokens V c) r g)) :
    (dat1 V c).arrAt 3 cfg1.N = fun i : S16384x4608.Idx =>
      ((∑ k : Fin 4096, (codeOf (tokens V c) (i 0) k * pow2 ((expOf (tokens V c) (i 0) (grp k) : ℤ) - 127))
        * V c main_v0 (ix2 (n0 := 4096) (n1 := 4608) k (i 1))) + V c main_v2 (ix2 (n0 := 1) (n1 := 4608) 0 (i 1)) : EReal) := by
  refine (dat1 V c).arrAt_eq_of_covers 3 _ (by decide +kernel) fun t hf y => ?_
  blk_simp
  rw [after1_3, step_y V c t (fun i => by rw [blockMax]; exact hx _ _), matmul_apply, emb3, blockW_apply, blockB_apply]
  refine congrArg (· + (V c main_v2 (ix2 (n0 := 1) (n1 := 4608) 0 (y 1)) : EReal)) (Finset.sum_congr rfl fun k _ => ?_)
  refine congrArg (· * (V c main_v0 (ix2 (n0 := 4096) (n1 := 4608) k (y 1)) : EReal)) ?_
  unfold valueAt
  rw [code_block, blockMax]
  rfl

/-! ## The arrays as the host leaves them between the calls -/

variable (m : (ℓ : Loc nD τ sig) → Buf (Elt Ideal) ℓ) (ρ : Dev nD → PrngReg)

theorem entry_weights (c : Dev nD) : V2 m ρ c main_v0 = weightAt (m ((c.tc : Thread nD τ).loc main_arg1)) (m ((c.tc : Thread nD τ).loc main_arg2)) := by
  refine (W2_of m ρ c main_v0 (by decide)).trans ?_
  exact (W1_arr m ρ c 2).trans (weights_array (V0 m ρ) c)

theorem entry_x (c : Dev nD) (r : Fin 16384) (k : Fin 4096) : V2 m ρ c main_v1 (ix2 (n0 := 16384) (n1 := 4096) r k)
    = m ((c.tc : Thread nD τ).loc main_arg0) (ix3 (n0 := 8) (n1 := 2048) (n2 := 4096) ⟨r.val / 2048, by omega⟩ ⟨r.val % 2048, by omega⟩ k) := by
  have h : V2 m ρ c main_v1 = shapeCast S16384x4096 (W1 m ρ c main_arg0) shapeCasts_S8x2048x4096_S16384x4096 := by
    show StableHlo.after hostOps1 (W1 m ρ c) (Proc.devRef .tc main_v1) = _
    entry_read
    rfl
  rw [h, W1_args m ρ c main_arg0 (by decide)]
  pointwise []

theorem entry_b (c : Dev nD) (n : Fin 4608) : V2 m ρ c main_v2 (ix2 (n0 := 1) (n1 := 4608) 0 n)
    = m ((c.tc : Thread nD τ).loc main_arg3) (ix1 (n0 := 4608) n) := by
  have h : V2 m ρ c main_v2 = shapeCast S1x4608 (W1 m ρ c main_arg3) shapeCasts_S4608_S1x4608 := by
    show StableHlo.after hostOps1 (W1 m ρ c) (Proc.devRef .tc main_v2) = _
    entry_read
    rfl
  rw [h, W1_args m ρ c main_arg3 (by decide)]
  pointwise []

end Cert.KernelIdeal.Gen

end
-- ==== Proof.ReferenceValue.lean ====
/- What the reference's one-step grid leaves in its three result arrays, and the run of the reference that ends with them. -/
module

public import proofs.«01_k».proof.Proof.Spec
public import proofs.«01_k».proof.Proof.Gen.ReferenceIdeal.Frame

@[expose] public section

set_option maxRecDepth 16384

noncomputable section

open scoped BigOperators

namespace Cert.ReferenceIdeal.Gen

open Idealize.ShloMosaic Idealize.ShloMosaic.TcCoe Idealize.ShloMosaic.Tactic Idealize.SL.Sem Cert.ReferenceIdeal Cert.Mxfp8
open Cert.KernelIdeal.Gen (clip biasedNat_spec)

/-! ## The exponents -/

/-- The largest magnitude of every group. -/
def refMax (v : Vec Ideal S16384x4096 .bf16) : FVec Ideal S16384x128 .f32 :=
  multiReduction .maximumf [2] S16384x128 (absf (k0_pay2 v)) 0xFF800000#32 reduces_S16384x128x32_S16384x128 (.inl rfl) rfl

/-- The token rows of a block, as a function of plain coordinates. -/
def rows (x : Vec Ideal S16384x4096 .bf16) (r : Fin 16384) (k : Fin 4096) : EReal := x (ix2 (n0 := 16384) (n1 := 4096) r k)

theorem refMax_apply (x : Vec Ideal S16384x4096 .bf16) (r : Fin 16384) (g : Fin 128) :
    refMax x (ix2 (n0 := 16384) (n1 := 128) r g) = groupMax (rows x) r g := by
  unfold refMax
  pointwise [k0_pay2]
  rw [ofBits_bottom]
  rfl

/-- The reference's exponents, from the groups' maxima, over any constants. -/
def expVec (c448 c2 c0 : Idealize.ShloMosaic.Ideal .f32) (lo hi : BitVec 32) (v5 : FVec Ideal S16384x128 .f32) : IVec S16384x128 32 :=
  minsi (broadcast S16384x128 hi) (maxsi (broadcast S16384x128 lo) (select (cmpf .oeq v5 (broadcast S16384x128 c0)) (broadcast S16384x128 0#32)
    (addi (fptosi 32 (floor (divf (log (divf v5 (broadcast S16384x128 c448))) (log (broadcast S16384x128 c2))))) (broadcast S16384x128 1#32))))

theorem pay3_eq (x : Vec Ideal S16384x4096 .bf16) :
    k0_pay3 x = expVec (Scalar.ofBits .f32 0x43E00000#32) (Scalar.ofBits .f32 0x40000000#32) (Scalar.ofBits .f32 0x00000000#32)
      4294967169#32 127#32 (refMax x) := rfl

/-- The exponent of one maximum, over any constants. -/
def expEntry (c448 c2 c0 : Idealize.ShloMosaic.Ideal .f32) (lo hi : BitVec 32) (a : Idealize.ShloMosaic.Ideal .f32) : BitVec 32 :=
  IntOp.minsi hi (IntOp.maxsi lo (Scalar.select (FloatOps.cmpf .oeq a c0) 0#32
    (IntOp.addi (FloatOps.fptosi 32 (FloatOps.floor (FloatOps.divf (FloatOps.log (FloatOps.divf a c448)) (FloatOps.log c2)))) 1#32)))

theorem expVec_apply (c448 c2 c0 : Idealize.ShloMosaic.Ideal .f32) (lo hi : BitVec 32) (v5 : FVec Ideal S16384x128 .f32) (i : S16384x128.Idx) :
    expVec c448 c2 c0 lo hi v5 i = expEntry c448 c2 c0 lo hi (v5 i) := rfl

theorem expEntry_eq (a : EReal) :
    expEntry (Scalar.ofBits .f32 0x43E00000#32) (Scalar.ofBits .f32 0x40000000#32) (Scalar.ofBits .f32 0x00000000#32)
      4294967169#32 127#32 a = refExponent a := rfl

theorem exponents_apply (x : Vec Ideal S16384x4096 .bf16) (hx : ∀ r g, GoodMax (groupMax (rows x) r g)) (r : Fin 16384) (g : Fin 128) :
    k0_pay3 x (ix2 (n0 := 16384) (n1 := 128) r g) = BitVec.ofInt 32 ((expOf (rows x) r g : ℤ) - 127) := by
  rw [pay3_eq, expVec_apply, refMax_apply, expEntry_eq]
  exact (biasedNat_spec (hx r g)).2.2.2

/-! ## The codes, the scales and the product -/

theorem pay4_apply (x : Vec Ideal S16384x4096 .bf16) (r : Fin 16384) (g : Fin 128) (t : Fin 32) :
    k0_pay4 x (ix3 (n0 := 16384) (n1 := 128) (n2 := 32) r g t)
    = clip (rows x r (col g t) * FloatOps.exp2 (F := Idealize.ShloMosaic.Ideal) (φ := .f32) (FloatOps.sitofp (F := Idealize.ShloMosaic.Ideal) .f32 (IntOp.subi 0#32 (k0_pay3 x (ix2 (n0 := 16384) (n1 := 128) r g))))) := by
  pointwise [k0_pay4, k0_pay2]
  rfl

theorem code_entry (x : Vec Ideal S16384x4096 .bf16) (hx : ∀ r g, GoodMax (groupMax (rows x) r g)) (r : Fin 16384) (g : Fin 128) (t : Fin 32) :
    k0_pay4 x (ix3 (n0 := 16384) (n1 := 128) (n2 := 32) r g t) = codeOf (rows x) r (col g t) := by
  obtain ⟨h1, h2, -⟩ := biasedNat_spec (hx r g)
  rw [pay4_apply, exponents_apply x hx]
  refine (congrArg (fun z : EReal => clip (rows x r (col g t) * z)) (exponent_neg_exp2 _ h1 h2)).trans ?_
  unfold codeOf
  rw [grp_col]
  rfl

theorem pay5_apply (x : Vec Ideal S16384x4096 .bf16) (i : S16384x4096.Idx) :
    k0_pay5 x i = k0_pay4 x (ix3 (n0 := 16384) (n1 := 128) (n2 := 32) (i 0)
      ⟨(i 1).val / 32, by have : (i 1).val < 4096 := (i 1).isLt; omega⟩ ⟨(i 1).val % 32, by omega⟩) := by
  pointwise [k0_pay5]

theorem codes_entry (x : Vec Ideal S16384x4096 .bf16) (hx : ∀ r g, GoodMax (groupMax (rows x) r g)) (i : S16384x4096.Idx) :
    k0_pay5 x i = codeOf (rows x) (i 0) (i 1) := by
  rw [pay5_apply]
  refine (code_entry x hx _ _ _).trans (congrArg (codeOf (rows x) (i 0)) (Fin.ext ?_))
  show (i 1).val / 32 * 32 + (i 1).val % 32 = (i 1).val
  omega

theorem pay6_apply (x : Vec Ideal S16384x4096 .bf16) (i : S16384x128.Idx) :
    k0_pay6 x i = BitVec.setWidth 8 (IntOp.addi (k0_pay3 x i) 127#32) := by
  pointwise [k0_pay6]

theorem scales_entry (x : Vec Ideal S16384x4096 .bf16) (hx : ∀ r g, GoodMax (groupMax (rows x) r g)) (i : S16384x128.Idx) :
    k0_pay6 x i = BitVec.ofNat 8 (expOf (rows x) (i 0) (i 1)) := by
  obtain ⟨h1, h2, -⟩ := biasedNat_spec (hx (i 0) (i 1))
  have e : i = ix2 (n0 := 16384) (n1 := 128) (i 0) (i 1) := by funext a; match a with | ⟨0, _⟩ => rfl | ⟨1, _⟩ => rfl
  rw [pay6_apply]
  refine (congrArg (fun z => BitVec.setWidth 8 (IntOp.addi z 127#32)) ((congrArg (k0_pay3 x) e).trans (exponents_apply x hx (i 0) (i 1)))).trans ?_
  exact exponent_word _ h1 h2

theorem pay1_apply (e : IVec S16384x128 32) (q : FVec Ideal S16384x128x32 .fp8e4m3) (w : Vec Ideal S4096x4608 .fp8e4m3) (s : Vec Ideal S128x4608 .i8)
    (b : Vec Ideal S1x4608 .f32) (i : S16384x4608.Idx) : k0_pay1 e q w s b i
    = ((∑ g : Fin 128, (∑ t : Fin 32, q (ix3 (n0 := 16384) (n1 := 128) (n2 := 32) (i 0) g t) * w (ix2 (n0 := 4096) (n1 := 4608) (col g t) (i 1)))
        * FloatOps.exp2 (F := Idealize.ShloMosaic.Ideal) (φ := .f32) (FloatOps.sitofp (F := Idealize.ShloMosaic.Ideal) .f32 (e (ix2 (n0 := 16384) (n1 := 128) (i 0) g)))
        * FloatOps.exp2 (F := Idealize.ShloMosaic.Ideal) (φ := .f32) (FloatOps.sitofp (F := Idealize.ShloMosaic.Ideal) .f32 (IntOp.subi (BitVec.setWidth 32 (s (ix2 (n0 := 128) (n1 := 4608) g (i 1)))) 127#32)))
      + b (ix2 (n0 := 1) (n1 := 4608) 0 (i 1)) : EReal) := by
  pointwise [k0_pay1]
  rfl

theorem y_entry (x : Vec Ideal S16384x4096 .bf16) (hx : ∀ r g, GoodMax (groupMax (rows x) r g)) (w : Vec Ideal S4096x4608 .fp8e4m3)
    (s : Vec Ideal S128x4608 .i8) (b : Vec Ideal S1x4608 .f32) (i : S16384x4608.Idx) :
    k0_pay1 (k0_pay3 x) (k0_pay4 x) w s b i
    = referenceY (rows x) (fun k n => w (ix2 (n0 := 4096) (n1 := 4608) k n)) (fun g n => (BitVec.toNat (s (ix2 (n0 := 128) (n1 := 4608) g n)) : ℤ))
        (fun n => b (ix2 (n0 := 1) (n1 := 4608) 0 n)) (i 0) (i 1) := by
  rw [pay1_apply]
  unfold referenceY
  refine congrArg (· + (b (ix2 (n0 := 1) (n1 := 4608) 0 (i 1)) : EReal)) (Finset.sum_congr rfl fun g _ => ?_)
  obtain ⟨h1, h2, -⟩ := biasedNat_spec (hx (i 0) g)
  refine congrArg₂ (fun a b : EReal => a * b) (congrArg₂ (fun a b : EReal => a * b) (Finset.sum_congr rfl fun t _ => ?_) ?_) ?_
  · exact congrArg (fun a : EReal => a * (w (ix2 (n0 := 4096) (n1 := 4608) (col g t) (i 1)) : EReal)) (code_entry x hx (i 0) g t)
  · exact (congrArg (fun z : BitVec 32 => (FloatOps.exp2 (F := Idealize.ShloMosaic.Ideal) (φ := .f32)
      (FloatOps.sitofp (F := Idealize.ShloMosaic.Ideal) .f32 z) : EReal)) (exponents_apply x hx (i 0) g)).trans (exponent_exp2 _ h1 h2)
  · exact scale_exp2 _

/-! ## The arrays the run leaves -/

variable (m : (ℓ : Loc nD τ sig) → Buf (Elt Ideal) ℓ) (ρ : Dev nD → PrngReg)

theorem index : ∀ t : Fin cfg0.N, win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 ∧ win0_4.index t 0 = 0 ∧ win0_4.index t 1 = 0
    ∧ win0_5.index t 0 = 0 ∧ win0_5.index t 1 = 0 ∧ win0_6.index t 0 = 0 ∧ win0_6.index t 1 = 0 := by decide +kernel

theorem block0 (c : Dev nD) : iblk m c 0 t0_0 = V m c main_v0 := by
  funext y
  blk_ext [iblk, index t0_0]

theorem block1 (c : Dev nD) : iblk m c 1 t0_0 = V m c main_arg1 := by
  funext y
  blk_ext [iblk, index t0_0]

theorem block2 (c : Dev nD) : iblk m c 2 t0_0 = V m c main_arg2 := by
  funext y
  blk_ext [iblk, index t0_0]

theorem block3 (c : Dev nD) : iblk m c 3 t0_0 = V m c main_v1 := by
  funext y
  blk_ext [iblk, index t0_0]

theorem flat_apply (x : Vec Ideal S8x2048x4096 .bf16) (r : Fin 16384) (k : Fin 4096) :
    shapeCast S16384x4096 x shapeCasts_S8x2048x4096_S16384x4096 (ix2 (n0 := 16384) (n1 := 4096) r k)
    = x (ix3 (n0 := 8) (n1 := 2048) (n2 := 4096) ⟨r.val / 2048, by omega⟩ ⟨r.val % 2048, by omega⟩ k) := by
  pointwise []

theorem row_apply (b : Vec Ideal S4608 .f32) (n : Fin 4608) :
    shapeCast S1x4608 b shapeCasts_S4608_S1x4608 (ix2 (n0 := 1) (n1 := 4608) 0 n) = b (ix1 (n0 := 4608) n) := by
  pointwise []

theorem rows_entry (c : Dev nD) (r : Fin 16384) (k : Fin 4096) : rows (iblk m c 0 t0_0) r k
    = m ((c.tc : Thread nD τ).loc main_arg0) (ix3 (n0 := 8) (n1 := 2048) (n2 := 4096) ⟨r.val / 2048, by omega⟩ ⟨r.val % 2048, by omega⟩ k) := by
  unfold rows
  rw [block0]
  have h : V m c main_v0 = shapeCast S16384x4096 (m ((c.tc : Thread nD τ).loc main_arg0)) shapeCasts_S8x2048x4096_S16384x4096 := by
    entry_read
    rfl
  rw [h]
  exact flat_apply _ r k

theorem bias_entry (c : Dev nD) (n : Fin 4608) : (iblk m c 3 t0_0) (ix2 (n0 := 1) (n1 := 4608) 0 n)
    = m ((c.tc : Thread nD τ).loc main_arg3) (ix1 (n0 := 4608) n) := by
  rw [block3]
  have h : V m c main_v1 = shapeCast S1x4608 (m ((c.tc : Thread nD τ).loc main_arg3)) shapeCasts_S4608_S1x4608 := by
    entry_read
    rfl
  rw [h]
  exact row_apply _ n

theorem codes_ref (c : Dev nD) (hx : ∀ r g, GoodMax (groupMax (rows (iblk m c 0 t0_0)) r g)) :
    (dats m 0 c).arrAt 5 cfg0.N = fun i : S16384x4096.Idx => codeOf (rows (iblk m c 0 t0_0)) (i 0) (i 1) := by
  refine (dats m 0 c).arrAt_eq_of_after_last 5 t0_0 (by decide +kernel) _ fun j => ?_
  blk_simp
  rw [after0_5]
  frame_out
  rw [codes_entry _ hx]

theorem scales_ref (c : Dev nD) (hx : ∀ r g, GoodMax (groupMax (rows (iblk m c 0 t0_0)) r g)) :
    (dats m 0 c).arrAt 6 cfg0.N = fun i : S16384x128.Idx => BitVec.ofNat 8 (expOf (rows (iblk m c 0 t0_0)) (i 0) (i 1)) := by
  refine (dats m 0 c).arrAt_eq_of_after_last 6 t0_0 (by decide +kernel) _ fun j => ?_
  blk_simp
  rw [after0_6]
  frame_out
  rw [scales_entry _ hx]

theorem y_ref (c : Dev nD) (hx : ∀ r g, GoodMax (groupMax (rows (iblk m c 0 t0_0)) r g)) :
    (dats m 0 c).arrAt 4 cfg0.N = fun i : S16384x4608.Idx =>
      referenceY (rows (iblk m c 0 t0_0)) (fun k n => m ((c.tc : Thread nD τ).loc main_arg1) (ix2 (n0 := 4096) (n1 := 4608) k n))
        (fun g n => (BitVec.toNat (m ((c.tc : Thread nD τ).loc main_arg2) (ix2 (n0 := 128) (n1 := 4608) g n)) : ℤ))
        (fun n => m ((c.tc : Thread nD τ).loc main_arg3) (ix1 (n0 := 4608) n)) (i 0) (i 1) := by
  refine (dats m 0 c).arrAt_eq_of_after_last 4 t0_0 (by decide +kernel) _ fun j => ?_
  blk_simp
  rw [after0_4]
  frame_out
  rw [y_entry _ hx, block1, block2, V_main_arg1, V_main_arg2]
  simp only [bias_entry]

/-- The run of the reference: its three results and its arguments. -/
theorem run_reference : θ_run defs (onTc (τ := τ) (main (F := Ideal))) ⟨m, fun _ => 0, ρ⟩ (fun r => ∀ c : Dev nD,
      r.2.mem ((c.tc : Thread nD τ).loc main_v2_0) = (dats m 0 c).arrAt 4 cfg0.N
      ∧ r.2.mem ((c.tc : Thread nD τ).loc main_v2_1) = (dats m 0 c).arrAt 5 cfg0.N
      ∧ r.2.mem ((c.tc : Thread nD τ).loc main_v2_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine θ_run_mono (θ_run_and (run_main m ρ) (unchanged m ρ)) ?_
  intro r hr c
  exact ⟨(hr.1 c).1 4, (hr.1 c).1 5, (hr.1 c).1 6, hr.2 c⟩

end Cert.ReferenceIdeal.Gen

end
-- ==== Proof.Precondition.lean ====
/- What the precondition says of the arguments: every group's maximum is one that both exponents are defined at, and every
   scale of the weights is one that both decoders read alike. -/
module

public import proofs.«01_k».proof.Defs
public import proofs.«01_k».proof.Proof.Spec
public import Idealize.ShloMosaic.Lib.ReduceAll
public import Idealize.ShloMosaic.Lib.Affine

@[expose] public section

set_option maxRecDepth 16384

noncomputable section

namespace Cert.Mxfp8

open Idealize.ShloMosaic Idealize.ShloMosaic.TcCoe Idealize.ShloMosaic.Tactic Cert.Pre_domain

variable [Cert.Pre_domain.Facts]
open Cert.Pre_domain.Facts

/-- The tokens, one row each. -/
def flat (x : FVec Ideal S8x2048x4096 .bf16) (r : Fin 16384) (k : Fin 4096) : EReal :=
  x (ix3 (n0 := 8) (n1 := 2048) (n2 := 4096) ⟨r.val / 2048, by omega⟩ ⟨r.val % 2048, by omega⟩ k)

theorem and_one (a b : BitVec 1) (h : IntOp.andi a b = 1#1) : a = 1#1 ∧ b = 1#1 := by
  revert a b; decide

theorem scale_range (s : BitVec 8) (h : IntOp.andi (IntOp.cmpi .uge s 1#8) (IntOp.cmpi .ule s 254#8) = 1#1) :
    1 ≤ s.toNat ∧ s.toNat ≤ 254 := by
  revert s; decide +kernel

theorem good_of_bits (a : EReal) (z l : EReal) (hz : z = 0) (hl : l = ((448 * (2 : ℝ) ^ (-127 : ℤ) : ℝ) : EReal))
    (hu : a ≤ ((patReal 32639 : ℝ) : EReal))
    (h : IntOp.ori (Ideal.cmp .oeq a z) (Ideal.cmp .oge a l) = 1#1) : GoodMax a := by
  have hb : ∀ p q : Bool, IntOp.ori (BitVec.ofBool p) (BitVec.ofBool q) = 1#1 → p = true ∨ q = true := by decide
  rcases hb (decide (a = z)) (decide (l ≤ a)) h with h | h
  · exact Or.inl ((of_decide_eq_true h).trans hz)
  · exact Or.inr ⟨hl ▸ of_decide_eq_true h, hu⟩

theorem lower_bound : Ideal.ofBits .f32 0x04600000#32 = ((448 * (2 : ℝ) ^ (-127 : ℤ) : ℝ) : EReal) := by
  simp [Ideal.ofBits, Ideal.ieee, -EReal.coe_mul]; norm_num

theorem upper_bound : Ideal.ofBits .f32 0x7F7F0000#32 = ((patReal 32639 : ℝ) : EReal) := by
  have h := ofBits_f32_pat 32639 (by norm_num)
  rw [show BitVec.ofNat 32 (32639 * 65536) = 0x7F7F0000#32 from by decide] at h
  rw [h]
  exact if_pos (by norm_num)

/-- The precondition's group maximum. -/
def preMax (x : FVec Ideal S8x2048x4096 .bf16) : FVec Ideal S2097152 .f32 :=
  Host.reduce FloatOps.maximumf (shapeCast S2097152x32 (Host.absf (extf .f32 x bitsLt_bf16_f32)) shapeCasts_S8x2048x4096_S2097152x32)
    (constant S_ .f32 0xFF800000#32) reducesTo_S2097152x32_S2097152_d1 h_S_

theorem ix3_eq {n0 n1 n2 : ℕ} {a a' : Fin n0} {b b' : Fin n1} {c c' : Fin n2} (h0 : a = a') (h1 : b = b') (h2 : c = c') :
    ix3 (n0 := n0) (n1 := n1) (n2 := n2) a b c = ix3 a' b' c' := by
  subst h0 h1 h2; rfl

theorem preMax_apply (x : FVec Ideal S8x2048x4096 .bf16) (r : Fin 16384) (g : Fin 128) :
    preMax x (ix1 (n0 := 2097152) ⟨r.val * 128 + g.val, by omega⟩) = groupMax (flat x) r g := by
  unfold preMax
  pointwise []
  rw [ofBits_bottom]
  unfold groupMax flat
  refine congrArg (fun f => Finset.fold max (⊥ : EReal) f Finset.univ) (funext fun t => ?_)
  refine congrArg (fun i => max (x i : EReal) (-(x i : EReal))) (ix3_eq (Fin.ext ?_) (Fin.ext ?_) (Fin.ext ?_))
  · show (r.val * 128 + g.val) / 262144 = r.val / 2048
    omega
  · show (r.val * 128 + g.val) / 128 % 2048 = r.val % 2048
    omega
  · show (r.val * 128 + g.val) % 128 * 32 + t.val = g.val * 32 + t.val
    omega

theorem ori_entry {s : Shape} (v : FVec Ideal s .f32) (z l : BitVec 32) (bc : S_.BroadcastsInDim s (![] : Fin 0 → Fin s.rank)) (i : s.Idx) :
    ori (cmpf .oeq v (broadcastInDim s ![] bc (constant S_ .f32 z))) (cmpf .oge v (broadcastInDim s ![] bc (constant S_ .f32 l))) i
    = IntOp.ori (Ideal.cmp .oeq (v i) (Ideal.ofBits .f32 z)) (Ideal.cmp .oge (v i) (Ideal.ofBits .f32 l)) := rfl

theorem fn_bounds (x : FVec Ideal S8x2048x4096 .bf16) (w : FVec Ideal S4096x4608 .fp8e4m3) (s : IVec S128x4608 8) (b : FVec Ideal S4608 .f32)
    (h : Cert.Pre_domain.fn (F := Ideal) x w s b = fun _ => 1#1) :
    (∀ i, Ideal.cmp .ole (max (x i : EReal) (-(x i : EReal))) (Ideal.ofBits .f32 0x7F7F0000#32) = 1#1)
    ∧ (∀ i, IntOp.ori (Ideal.cmp .oeq (preMax x i) (Ideal.ofBits .f32 0#32)) (Ideal.cmp .oge (preMax x i) (Ideal.ofBits .f32 0x04600000#32)) = 1#1)
    ∧ ∀ i, IntOp.andi (IntOp.cmpi .uge (s i) 1#8) (IntOp.cmpi .ule (s i) 254#8) = 1#1 := by
  have h0 := congrFun h (Shape.Idx.first h_S_)
  dsimp only [fn, fn_part1] at h0
  obtain ⟨h1, h2⟩ := and_one _ _ h0
  obtain ⟨h3, h4⟩ := and_one _ _ h1
  haveI : Subsingleton S_.Idx := ⟨fun a b => funext fun i => i.elim0⟩
  refine ⟨fun i => ?_, fun i => ?_, fun i => ?_⟩
  · have k := Host.reduce_andi_all _ _ _ _ _ h3 i
    exact k
  · unfold preMax
    exact (ori_entry _ _ _ _ i).symm.trans (Host.reduce_andi_all _ _ _ _ _ h4 i)
  · have k := Host.reduce_andi_all _ _ _ _ _ h2 i
    exact k

theorem fold_max_le {ι : Type} (S : Finset ι) (f : ι → EReal) (u : EReal) (h : ∀ i, f i ≤ u) : S.fold max (⊥ : EReal) f ≤ u :=
  Finset.fold_max_le _ |>.mpr ⟨bot_le, fun i _ => h i⟩

/-- Every group's maximum is good, and every scale of the weights is in range. -/
theorem domain_facts (x : FVec Ideal S8x2048x4096 .bf16) (w : FVec Ideal S4096x4608 .fp8e4m3) (s : IVec S128x4608 8) (b : FVec Ideal S4608 .f32)
    (h : Cert.Pre_domain.fn (F := Ideal) x w s b = fun _ => 1#1) :
    (∀ r g, GoodMax (groupMax (flat x) r g)) ∧ ∀ i, 1 ≤ (s i).toNat ∧ (s i).toNat ≤ 254 := by
  obtain ⟨h1, h2, h3⟩ := fn_bounds x w s b h
  refine ⟨fun r g => ?_, fun i => scale_range _ (h3 i)⟩
  have hb : ∀ p : Bool, BitVec.ofBool p = 1#1 → p = true := by decide
  refine good_of_bits _ _ _ ofBits_zero lower_bound (fold_max_le _ _ _ fun t => ?_) ?_
  · rw [← upper_bound]
    exact of_decide_eq_true (hb _ (h1 _))
  · rw [← preMax_apply x r g]
    exact h2 _

end Cert.Mxfp8

end
-- ==== Proof.Results.lean ====
/- The two programs' results as functions of the arguments, and that they are the same functions. -/
module

public import proofs.«01_k».proof.Proof.KernelRun
public import proofs.«01_k».proof.Proof.KernelArrays
public import proofs.«01_k».proof.Proof.ReferenceValue
public import proofs.«01_k».proof.Proof.Precondition

@[expose] public section

set_option maxRecDepth 16384

noncomputable section

open scoped BigOperators

namespace Cert.Mxfp8

open Idealize.ShloMosaic Idealize.ShloMosaic.TcCoe Idealize.SL.Sem Cert.KernelIdeal.Gen

/-- The weights by plain coordinates. -/
def argW (w : Vec Ideal Cert.KernelIdeal.S4096x4608 .fp8e4m3) (k : Fin 4096) (n : Fin 4608) : EReal := w (ix2 (n0 := 4096) (n1 := 4608) k n)

/-- The weights' scale words by plain coordinates. -/
def argS (s : Vec Ideal Cert.KernelIdeal.S128x4608 .i8) (g : Fin 128) (n : Fin 4608) : ℤ := (BitVec.toNat (s (ix2 (n0 := 128) (n1 := 4608) g n)) : ℤ)

/-- The bias by plain coordinates. -/
def argB (b : Vec Ideal Cert.KernelIdeal.S4608 .f32) (n : Fin 4608) : EReal := b (ix1 (n0 := 4608) n)

/-- The layer's output. -/
def resY (x : Vec Ideal Cert.KernelIdeal.S8x2048x4096 .bf16) (w : Vec Ideal Cert.KernelIdeal.S4096x4608 .fp8e4m3)
    (s : Vec Ideal Cert.KernelIdeal.S128x4608 .i8) (b : Vec Ideal Cert.KernelIdeal.S4608 .f32) : Vec Ideal Cert.KernelIdeal.S16384x4608 .bf16 :=
  fun i => referenceY (flat x) (argW w) (argS s) (argB b) (i 0) (i 1)

/-- The codes. -/
def resCodes (x : Vec Ideal Cert.KernelIdeal.S8x2048x4096 .bf16) : Vec Ideal Cert.KernelIdeal.S16384x4096 .fp8e4m3 :=
  fun i => codeOf (flat x) (i 0) (i 1)

/-- The scale words. -/
def resScales (x : Vec Ideal Cert.KernelIdeal.S8x2048x4096 .bf16) : Vec Ideal Cert.KernelIdeal.S16384x128 .i8 :=
  fun i => BitVec.ofNat 8 (expOf (flat x) (i 0) (i 1))

section Kernel

open Cert.KernelIdeal

variable (m : (ℓ : Loc nD τ sig) → Buf (Elt Ideal) ℓ) (ρ : Dev nD → PrngReg)

theorem tokens_eq (c : Dev nD) : tokens (V2 m ρ) c = flat (m ((c.tc : Thread nD τ).loc main_arg0)) := by
  funext r k
  exact entry_x m ρ c r k

theorem kernel_codes (c : Dev nD) (hx : ∀ r g, GoodMax (groupMax (flat (m ((c.tc : Thread nD τ).loc main_arg0))) r g)) :
    (dat1 (V2 m ρ) c).arrAt 4 cfg1.N = resCodes (m ((c.tc : Thread nD τ).loc main_arg0)) := by
  rw [← tokens_eq m ρ c] at hx
  rw [codes_array _ _ hx, tokens_eq]
  rfl

theorem kernel_scales (c : Dev nD) (hx : ∀ r g, GoodMax (groupMax (flat (m ((c.tc : Thread nD τ).loc main_arg0))) r g)) :
    (dat1 (V2 m ρ) c).arrAt 5 cfg1.N = resScales (m ((c.tc : Thread nD τ).loc main_arg0)) := by
  rw [← tokens_eq m ρ c] at hx
  rw [scales_array _ _ hx, tokens_eq]
  rfl

theorem weightAt_apply (w : Vec Ideal S4096x4608 .fp8e4m3) (s : Vec Ideal S128x4608 .i8)
    (hs : ∀ i, 1 ≤ (BitVec.toNat (s i)) ∧ (BitVec.toNat (s i)) ≤ 254) (k : Fin 4096) (n : Fin 4608) :
    weightAt w s (ix2 (n0 := 4096) (n1 := 4608) k n) = argW w k n * pow2 (argS s (grp k) n - 127) :=
  congrArg (fun z : EReal => argW w k n * z) (scale_word _ (hs _).1 (hs _).2)

theorem kernel_y (c : Dev nD) (hx : ∀ r g, GoodMax (groupMax (flat (m ((c.tc : Thread nD τ).loc main_arg0))) r g))
    (hs : ∀ i, 1 ≤ (BitVec.toNat (m ((c.tc : Thread nD τ).loc main_arg2) i)) ∧ (BitVec.toNat (m ((c.tc : Thread nD τ).loc main_arg2) i)) ≤ 254) :
    (dat1 (V2 m ρ) c).arrAt 3 cfg1.N = resY (m ((c.tc : Thread nD τ).loc main_arg0)) (m ((c.tc : Thread nD τ).loc main_arg1))
      (m ((c.tc : Thread nD τ).loc main_arg2)) (m ((c.tc : Thread nD τ).loc main_arg3)) := by
  rw [← tokens_eq m ρ c] at hx
  rw [y_array _ _ hx, tokens_eq]
  funext i
  refine Eq.trans ?_ (kernelY_eq (flat (m ((c.tc : Thread nD τ).loc main_arg0))) (argW (m ((c.tc : Thread nD τ).loc main_arg1)))
    (argS (m ((c.tc : Thread nD τ).loc main_arg2))) (argB (m ((c.tc : Thread nD τ).loc main_arg3))) (i 0) (i 1))
  unfold kernelY
  refine congrArg₂ (fun a b : EReal => a + b) (Finset.sum_congr rfl fun k _ => ?_) (entry_b m ρ c (i 1))
  refine congrArg (fun z : EReal => (codeOf (flat (m ((c.tc : Thread nD τ).loc main_arg0))) (i 0) k
    * pow2 ((expOf (flat (m ((c.tc : Thread nD τ).loc main_arg0))) (i 0) (grp k) : ℤ) - 127)) * z) ?_
  rw [entry_weights]
  exact weightAt_apply _ _ hs k (i 1)

end Kernel

section Reference

open Cert.ReferenceIdeal Cert.ReferenceIdeal.Gen

variable (m : (ℓ : Loc Cert.ReferenceIdeal.nD Cert.ReferenceIdeal.τ Cert.ReferenceIdeal.sig) → Buf (Elt Ideal) ℓ)

theorem rows_eq (c : Dev Cert.ReferenceIdeal.nD) : rows (iblk m c 0 Cert.ReferenceIdeal.Gen.t0_0)
    = flat (m ((c.tc : Thread Cert.ReferenceIdeal.nD Cert.ReferenceIdeal.τ).loc Cert.ReferenceIdeal.main_arg0)) := by
  funext r k
  exact rows_entry m c r k

theorem reference_codes (c : Dev Cert.ReferenceIdeal.nD)
    (hx : ∀ r g, GoodMax (groupMax (flat (m ((c.tc : Thread Cert.ReferenceIdeal.nD Cert.ReferenceIdeal.τ).loc Cert.ReferenceIdeal.main_arg0))) r g)) :
    (dats m 0 c).arrAt 5 Cert.ReferenceIdeal.cfg0.N = resCodes (m ((c.tc : Thread Cert.ReferenceIdeal.nD Cert.ReferenceIdeal.τ).loc Cert.ReferenceIdeal.main_arg0)) := by
  rw [← rows_eq m c] at hx
  rw [codes_ref m c hx, rows_eq]
  rfl

theorem reference_scales (c : Dev Cert.ReferenceIdeal.nD)
    (hx : ∀ r g, GoodMax (groupMax (flat (m ((c.tc : Thread Cert.ReferenceIdeal.nD Cert.ReferenceIdeal.τ).loc Cert.ReferenceIdeal.main_arg0))) r g)) :
    (dats m 0 c).arrAt 6 Cert.ReferenceIdeal.cfg0.N = resScales (m ((c.tc : Thread Cert.ReferenceIdeal.nD Cert.ReferenceIdeal.τ).loc Cert.ReferenceIdeal.main_arg0)) := by
  rw [← rows_eq m c] at hx
  rw [scales_ref m c hx, rows_eq]
  rfl

theorem reference_y (c : Dev Cert.ReferenceIdeal.nD)
    (hx : ∀ r g, GoodMax (groupMax (flat (m ((c.tc : Thread Cert.ReferenceIdeal.nD Cert.ReferenceIdeal.τ).loc Cert.ReferenceIdeal.main_arg0))) r g)) :
    (dats m 0 c).arrAt 4 Cert.ReferenceIdeal.cfg0.N = resY (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3)) := by
  rw [← rows_eq m c] at hx
  rw [y_ref m c hx, rows_eq]
  rfl

end Reference

/-- The value claim. -/
theorem values_agree [Cert.Pre_domain.Facts] : Cert.algebraic_KernelIdeal_ReferenceIdeal_pre_domain
    (hKernelIdeal := Cert.KernelIdeal.Gen.facts) (hReferenceIdeal := Cert.ReferenceIdeal.Gen.facts) := by
  intro m g m' g' hpre hagree
  have hd := fun c => domain_facts _ _ _ _ (hpre c)
  refine ⟨fun c => resY (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => resCodes (m ((c.tc : Thread Cert.KernelIdeal.nD Cert.KernelIdeal.τ).loc Cert.KernelIdeal.main_arg0)),
    fun c => resScales (m ((c.tc : Thread Cert.KernelIdeal.nD Cert.KernelIdeal.τ).loc Cert.KernelIdeal.main_arg0)), ?_, ?_⟩
  · refine θ_run_mono (run_values m g) ?_
    intro r hr c
    obtain ⟨h0, h1, h2, h3⟩ := hr c
    have k0 := kernel_y m g c (hd c).1 (hd c).2
    have k1 := kernel_codes m g c (hd c).1
    have k2 := kernel_scales m g c (hd c).1
    rw [k0] at h0
    rw [k1] at h1
    rw [k2] at h2
    exact ⟨h0, h1, h2, h3⟩
  · refine θ_run_mono (Cert.ReferenceIdeal.Gen.run_reference m' g') ?_
    intro r hr c
    obtain ⟨h0, h1, h2, h3⟩ := hr c
    obtain ⟨a0, a1, a2, a3⟩ := hagree c
    have hx := (hd c).1
    rw [← a0] at hx
    refine ⟨h0.trans ((reference_y m' c hx).trans ?_), h1.trans ((reference_codes m' c hx).trans ?_),
      h2.trans ((reference_scales m' c hx).trans ?_), h3⟩
    · rw [a0, a1, a2, a3]
    · rw [a0]
    · rw [a0]

end Cert.Mxfp8

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_domain
public import proofs.«01_k».proof.Proof.Results
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_domain.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial,
  @Cert.Mxfp8.values_agree Cert.Pre_domain.Gen.facts⟩

end Cert.Proof

end
